-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![64, 256, 768]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 256]⟩ ⟨2, ![768, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![8192, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = Layout.block ⟨3, ![2, 256, 768]⟩ ⟨3, ![64, 256, 768]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x256 : Shape := ⟨2, ![768, 256]⟩
abbrev S256x768 : Shape := ⟨2, ![256, 768]⟩
abbrev S256x256 : Shape := ⟨2, ![256, 256]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S1x256x1x64 : Shape := ⟨4, ![1, 256, 1, 64]⟩
abbrev S2x256x4x64 : Shape := ⟨4, ![2, 256, 4, 64]⟩
abbrev S512x256 : Shape := ⟨2, ![512, 256]⟩
abbrev S512x768 : Shape := ⟨2, ![512, 768]⟩
abbrev S2x768x768 : Shape := ⟨3, ![2, 768, 768]⟩
abbrev S2 : Shape := ⟨1, ![2]⟩
abbrev S1x256x768 : Shape := ⟨3, ![1, 256, 768]⟩
abbrev S1x768x256 : Shape := ⟨3, ![1, 768, 256]⟩
abbrev S1x768x768 : Shape := ⟨3, ![1, 768, 768]⟩
abbrev S768x768 : Shape := ⟨2, ![768, 768]⟩
abbrev S1 : Shape := ⟨1, ![1]⟩

abbrev nBuf : Space → Nat
  | .hbm => 43
  | .vmem => 14
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S256x256, .bf16⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S256, .i32⟩
  | .hbm, ⟨24, _⟩ => ⟨S256x1, .i32⟩
  | .hbm, ⟨25, _⟩ => ⟨S1x32, .f32⟩
  | .hbm, ⟨26, _⟩ => ⟨S256x1, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32, .f32⟩
  | .hbm, ⟨31, _⟩ => ⟨S256x32x2, .f32⟩
  | .hbm, ⟨32, _⟩ => ⟨S256x64, .f32⟩
  | .hbm, ⟨33, _⟩ => ⟨S256x32, .f32⟩
  | .hbm, ⟨34, _⟩ => ⟨S256x32x2, .f32⟩
  | .hbm, ⟨35, _⟩ => ⟨S256x64, .f32⟩
  | .hbm, ⟨36, _⟩ => ⟨S1x256x1x64, .f32⟩
  | .hbm, ⟨37, _⟩ => ⟨S2x256x4x64, .f32⟩
  | .hbm, ⟨38, _⟩ => ⟨S512x256, .f32⟩
  | .hbm, ⟨39, _⟩ => ⟨S1x256x1x64, .f32⟩
  | .hbm, ⟨40, _⟩ => ⟨S2x256x4x64, .f32⟩
  | .hbm, ⟨41, _⟩ => ⟨S512x256, .f32⟩
  | .hbm, ⟨42, _⟩ => ⟨S2x256x768, .f32⟩
  | .local _ .vmem, ⟨0, _⟩ => ⟨S2x256x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S512x256, .f32⟩
  | .local _ .vmem, ⟨6, _⟩ => ⟨S512x256, .f32⟩
  | .local _ .vmem, ⟨7, _⟩ => ⟨S256x256, .bf16⟩
  | .local _ .vmem, ⟨8, _⟩ => ⟨S2x256x768, .f32⟩
  | .local _ .vmem, ⟨9, _⟩ => ⟨S512x768, .bf16⟩
  | .local _ .vmem, ⟨10, _⟩ => ⟨S512x256, .bf16⟩
  | .local _ .vmem, ⟨11, _⟩ => ⟨S512x768, .f32⟩
  | .local _ .vmem, ⟨12, _⟩ => ⟨S2x768x768, .bf16⟩
  | .local _ .vmem, ⟨13, _⟩ => ⟨S2x256x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => true
  | ⟨1, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 2 17 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_117 : BitVec 32 := 0#32
  let c15_i32 : BitVec 32 := 15#32
  let v251 : BitVec 32 := Scalar.addi c0_i32_117 c15_i32
  let c1_i32_118 : BitVec 32 := 1#32
  ⟨c0_i32_117, v251, c1_i32_118⟩
def k0_dev3 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_278 : BitVec 32 := 1#32
  let v515 : BitVec 32 := Scalar.muli v7 c1_i32_278
  let v516 : BitVec 32 := Scalar.addi c0_i32_279 v515
  v516.toNat
def k0_dev4 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_288 : BitVec 32 := 1#32
  let v525 : BitVec 32 := Scalar.muli v7 c1_i32_288
  let v526 : BitVec 32 := Scalar.addi c0_i32_289 v525
  v526.toNat
def k0_dev5 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_333 : BitVec 32 := 1#32
  let v563 : BitVec 32 := Scalar.muli v5 c1_i32_333
  let v564 : BitVec 32 := Scalar.addi c0_i32_334 v563
  v564.toNat
def k0_dev6 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_423 : BitVec 32 := 1#32
  let v769 : BitVec 32 := Scalar.muli v7 c1_i32_423
  let v770 : BitVec 32 := Scalar.addi c0_i32_424 v769
  v770.toNat
def k0_dev7 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_433 : BitVec 32 := 1#32
  let v779 : BitVec 32 := Scalar.muli v7 c1_i32_433
  let v780 : BitVec 32 := Scalar.addi c0_i32_434 v779
  v780.toNat
def k0_dev8 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_478 : BitVec 32 := 1#32
  let v817 : BitVec 32 := Scalar.muli v5 c1_i32_478
  let v818 : BitVec 32 := Scalar.addi c0_i32_479 v817
  v818.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_126 : BitVec 32 := 1#32
  let v252 : BitVec 32 := Scalar.muli v7 c1_i32_126
  let v253 : BitVec 32 := Scalar.addi c0_i32_127 v252
  v253.toNat
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_136 : BitVec 32 := 1#32
  let v262 : BitVec 32 := Scalar.muli v7 c1_i32_136
  let v263 : BitVec 32 := Scalar.addi c0_i32_137 v262
  v263.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S64x256x768 : Shape := ⟨3, ![64, 256, 768]⟩
abbrev S768x8192 : Shape := ⟨2, ![768, 8192]⟩
abbrev S8192x768 : Shape := ⟨2, ![8192, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S64x256x8192 : Shape := ⟨3, ![64, 256, 8192]⟩
abbrev S64x256x128x64 : Shape := ⟨4, ![64, 256, 128, 64]⟩
abbrev S64x256x128x32x2 : Shape := ⟨5, ![64, 256, 128, 32, 2]⟩
abbrev S64x256x128x32x1 : Shape := ⟨5, ![64, 256, 128, 32, 1]⟩
abbrev S64x256x128x32 : Shape := ⟨4, ![64, 256, 128, 32]⟩
abbrev S1x256x1x64 : Shape := ⟨4, ![1, 256, 1, 64]⟩
abbrev S64x128x256x256 : Shape := ⟨4, ![64, 128, 256, 256]⟩
abbrev S64x128x256 : Shape := ⟨3, ![64, 128, 256]⟩
abbrev S64x128x256x1 : Shape := ⟨4, ![64, 128, 256, 1]⟩
abbrev S64x128x64x256 : Shape := ⟨4, ![64, 128, 64, 256]⟩

abbrev nBuf : Space → Nat
  | .hbm => 99
  | .vmem => 0
  | .smem => 0
  | _ => 0

abbrev bufTy : (tb : Table) → Fin (tcTables nBuf tb) → BufTy
  | .hbm, ⟨0, _⟩ => ⟨S64x256x768, .bf16⟩
  | .hbm, ⟨1, _⟩ => ⟨S768x8192, .bf16⟩
  | .hbm, ⟨2, _⟩ => ⟨S768x8192, .bf16⟩
  | .hbm, ⟨3, _⟩ => ⟨S768x8192, .bf16⟩
  | .hbm, ⟨4, _⟩ => ⟨S8192x768, .bf16⟩
  | .hbm, ⟨5, _⟩ => ⟨S64x256x768, .f32⟩
  | .hbm, ⟨6, _⟩ => ⟨S768x8192, .f32⟩
  | .hbm, ⟨7, _⟩ => ⟨S768x8192, .f32⟩
  | .hbm, ⟨8, _⟩ => ⟨S768x8192, .f32⟩
  | .hbm, ⟨9, _⟩ => ⟨S8192x768, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S256, .i32⟩
  | .hbm, ⟨28, _⟩ => ⟨S256x1, .i32⟩
  | .hbm, ⟨29, _⟩ => ⟨S1x32, .f32⟩
  | .hbm, ⟨30, _⟩ => ⟨S256x1, .f32⟩
  | .hbm, ⟨31, _⟩ => ⟨S256x32, .f32⟩
  | .hbm, ⟨32, _⟩ => ⟨S256x32, .f32⟩
  | .hbm, ⟨33, _⟩ => ⟨S256x32, .f32⟩
  | .hbm, ⟨34, _⟩ => ⟨S256x32, .f32⟩
  | .hbm, ⟨35, _⟩ => ⟨S256x32x2, .f32⟩
  | .hbm, ⟨36, _⟩ => ⟨S256x64, .f32⟩
  | .hbm, ⟨37, _⟩ => ⟨S256x32, .f32⟩
  | .hbm, ⟨38, _⟩ => ⟨S256x32x2, .f32⟩
  | .hbm, ⟨39, _⟩ => ⟨S256x64, .f32⟩
  | .hbm, ⟨40, _⟩ => ⟨S64x256x8192, .f32⟩
  | .hbm, ⟨41, _⟩ => ⟨S64x256x128x64, .f32⟩
  | .hbm, ⟨42, _⟩ => ⟨S64x256x128x32x2, .f32⟩
  | .hbm, ⟨43, _⟩ => ⟨S64x256x128x32x1, .f32⟩
  | .hbm, ⟨44, _⟩ => ⟨S64x256x128x32, .f32⟩
  | .hbm, ⟨45, _⟩ => ⟨S64x256x128x32, .f32⟩
  | .hbm, ⟨46, _⟩ => ⟨S64x256x128x32x1, .f32⟩
  | .hbm, ⟨47, _⟩ => ⟨S64x256x128x32, .f32⟩
  | .hbm, ⟨48, _⟩ => ⟨S64x256x128x32x1, .f32⟩
  | .hbm, ⟨49, _⟩ => ⟨S64x256x128x32x1, .f32⟩
  | .hbm, ⟨50, _⟩ => ⟨S64x256x128x32x2, .f32⟩
  | .hbm, ⟨51, _⟩ => ⟨S64x256x128x64, .f32⟩
  | .hbm, ⟨52, _⟩ => ⟨S1x256x1x64, .f32⟩
  | .hbm, ⟨53, _⟩ => ⟨S64x256x128x64, .f32⟩
  | .hbm, ⟨54, _⟩ => ⟨S64x256x128x64, .f32⟩
  | .hbm, ⟨55, _⟩ => ⟨S1x256x1x64, .f32⟩
  | .hbm, ⟨56, _⟩ => ⟨S64x256x128x64, .f32⟩
  | .hbm, ⟨57, _⟩ => ⟨S64x256x128x64, .f32⟩
  | .hbm, ⟨58, _⟩ => ⟨S64x256x128x64, .f32⟩
  | .hbm, ⟨59, _⟩ => ⟨S64x256x8192, .f32⟩
  | .hbm, ⟨60, _⟩ => ⟨S64x256x128x64, .f32⟩
  | .hbm, ⟨61, _⟩ => ⟨S64x256x128x32x2, .f32⟩
  | .hbm, ⟨62, _⟩ => ⟨S64x256x128x32x1, .f32⟩
  | .hbm, ⟨63, _⟩ => ⟨S64x256x128x32, .f32⟩
  | .hbm, ⟨64, _⟩ => ⟨S64x256x128x32, .f32⟩
  | .hbm, ⟨65, _⟩ => ⟨S64x256x128x32x1, .f32⟩
  | .hbm, ⟨66, _⟩ => ⟨S64x256x128x32, .f32⟩
  | .hbm, ⟨67, _⟩ => ⟨S64x256x128x32x1, .f32⟩
  | .hbm, ⟨68, _⟩ => ⟨S64x256x128x32x1, .f32⟩
  | .hbm, ⟨69, _⟩ => ⟨S64x256x128x32x2, .f32⟩
  | .hbm, ⟨70, _⟩ => ⟨S64x256x128x64, .f32⟩
  | .hbm, ⟨71, _⟩ => ⟨S1x256x1x64, .f32⟩
  | .hbm, ⟨72, _⟩ => ⟨S64x256x128x64, .f32⟩
  | .hbm, ⟨73, _⟩ => ⟨S64x256x128x64, .f32⟩
  | .hbm, ⟨74, _⟩ => ⟨S1x256x1x64, .f32⟩
  | .hbm, ⟨75, _⟩ => ⟨S64x256x128x64, .f32⟩
  | .hbm, ⟨76, _⟩ => ⟨S64x256x128x64, .f32⟩
  | .hbm, ⟨77, _⟩ => ⟨S64x256x128x64, .f32⟩
  | .hbm, ⟨78, _⟩ => ⟨S64x256x8192, .f32⟩
  | .hbm, ⟨79, _⟩ => ⟨S64x256x128x64, .f32⟩
  | .hbm, ⟨80, _⟩ => ⟨S64x128x256x256, .f32⟩
  | .hbm, ⟨81, _⟩ => ⟨S_, .f32⟩
  | .hbm, ⟨82, _⟩ => ⟨S64x128x256x256, .f32⟩
  | .hbm, ⟨83, _⟩ => ⟨S64x128x256x256, .f32⟩
  | .hbm, ⟨84, _⟩ => ⟨S_, .f32⟩
  | .hbm, ⟨85, _⟩ => ⟨S64x128x256, .f32⟩
  | .hbm, ⟨86, _⟩ => ⟨S64x128x256x1, .f32⟩
  | .hbm, ⟨87, _⟩ => ⟨S64x128x256x256, .f32⟩
  | .hbm, ⟨88, _⟩ => ⟨S64x128x256x256, .f32⟩
  | .hbm, ⟨89, _⟩ => ⟨S64x128x256x256, .f32⟩
  | .hbm, ⟨90, _⟩ => ⟨S_, .f32⟩
  | .hbm, ⟨91, _⟩ => ⟨S64x128x256, .f32⟩
  | .hbm, ⟨92, _⟩ => ⟨S64x128x256x1, .f32⟩
  | .hbm, ⟨93, _⟩ => ⟨S64x128x256x256, .f32⟩
  | .hbm, ⟨94, _⟩ => ⟨S64x128x256x256, .f32⟩
  | .hbm, ⟨95, _⟩ => ⟨S64x128x64x256, .f32⟩
  | .hbm, ⟨96, _⟩ => ⟨S64x256x128x64, .f32⟩
  | .hbm, ⟨97, _⟩ => ⟨S64x256x8192, .f32⟩
  | .hbm, ⟨98, _⟩ => ⟨S64x256x768, .f32⟩
  | _, _ => ⟨S64x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Ring.Protocol.lean ====
/-
  The ring's protocol, before any program text.

  Thirty-two devices; `nxt c` is `c + 1`, `prv c` is `c - 1`. A device's two buffers `qkv` and `wo` (the LANES `false` and `true`)
  have two slots each. Hop `n` (0 to 30) sends slot `n mod 2` of either lane to slot `(n + 1) mod 2` of `nxt c`. Before hop `n`
  slot `n mod 2` of device `c` holds the shard of the device `n` places back, `(prv^[n]) c`.

  Per semaphore:
  * the barrier cell of `c`, one round of two units: `nxt c` signals it, handing over its slots 1 (what hop 0 writes) and that its
    receive cells 1 are at round 0; `prv c` signals it, handing over nothing. `c` waits for both.
  * the credit cell of `c`, rounds 0 to 29 of one unit: `nxt c` signals round `r` once it has waited for its own hop `r`'s copies,
    handing over its slots `r mod 2` (what hop `r + 1` writes) and the round its receive cells there are at. `c` waits for round
    `r` before hop `r + 1`.
  * the send cell `s` of a lane, hop `n` with `n mod 2 = s` being round `n / 2`: the copy itself credits it, handing the source
    slot back. `c` waits for it in hop `n`.
  * the receive cell `s` of a lane, hop `n` with `(n + 1) mod 2 = s` being round `n / 2`: the copy of `prv c` credits it, handing over
    the slot at the shard of the device `n + 1` places back. `c` waits for it in hop `n`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's copy (left) and the ring's (right); waits are indexed by hop -/

abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

abbrev 𝒱₀ : Variants := Variants.none

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

theorem back_nxt (n : ℕ) (c : Dev nD) : prv^[n + 1] (nxt c) = prv^[n] c := by
  rw [Function.iterate_succ_apply, prv_nxt]

/-! ## Slots and lanes -/

/-- The parity of a number, as a slot. -/
def par (n : ℕ) : Fin 2 := ⟨n % 2, Nat.mod_lt _ (by decide)⟩
theorem par_add_two (n : ℕ) : par (n + 2) = par n := Fin.ext (by simp [par])
theorem par_even (k : ℕ) : par (2 * k) = 0 := Fin.ext (by simp [par])
theorem par_odd (k : ℕ) : par (2 * k + 1) = 1 := Fin.ext (by simp only [par]; show (2 * k + 1) % 2 = 1; omega)

/-- What a slot of a lane holds. -/
abbrev sh : Bool → Shape | false => S768x768 | true => S256x768

/-- Slot `s` of lane `l`. -/
abbrev slot : (l : Bool) → Fin 2 → Memref sig .tc .vmem (sh l) .bf16
  | false, 0 => ((Memref.whole cc0_scratch3 : Memref sig .tc .vmem S2x768x768 .bf16).slice (Rect.unit (s := S2x768x768) ![0, 0, 0] S1x768x768.size inb_S2x768x768_S1x768x768_0_0_0) (fun _ => rfl)).squeeze S768x768 squeezes_S1x768x768_S768x768
  | false, 1 => ((Memref.whole cc0_scratch3 : Memref sig .tc .vmem S2x768x768 .bf16).slice (Rect.unit (s := S2x768x768) ![1, 0, 0] S1x768x768.size inb_S2x768x768_S1x768x768_1_0_0) (fun _ => rfl)).squeeze S768x768 squeezes_S1x768x768_S768x768
  | true, 0 => ((Memref.whole cc0_scratch4 : Memref sig .tc .vmem S2x256x768 .bf16).slice (Rect.unit (s := S2x256x768) ![0, 0, 0] S1x256x768.size inb_S2x256x768_S1x256x768_0_0_0) (fun _ => rfl)).squeeze S256x768 squeezes_S1x256x768_S256x768
  | true, 1 => ((Memref.whole cc0_scratch4 : Memref sig .tc .vmem S2x256x768 .bf16).slice (Rect.unit (s := S2x256x768) ![1, 0, 0] S1x256x768.size inb_S2x256x768_S1x256x768_1_0_0) (fun _ => rfl)).squeeze S256x768 squeezes_S1x256x768_S256x768

/-! ## Semaphores and cells -/

abbrev barS : Sem sig := (SemArray.scalar (sig.barrier 0 rfl) : Sems sig S_).sem
abbrev crS : Sem sig := cc0_scratch9.sem

/-- The number of a lane's send and receive semaphore at a slot. -/
def sNo (l : Bool) (s : Fin 2) : ℕ := (if l then 13 else 9) + s.val
def rNo (l : Bool) (s : Fin 2) : ℕ := (if l then 15 else 11) + s.val
theorem sNo_ge (l : Bool) (s : Fin 2) : 9 ≤ sNo l s := by revert l s; decide
theorem rNo_ge (l : Bool) (s : Fin 2) : 9 ≤ rNo l s := by revert l s; decide
theorem sNo_lt (l : Bool) (s : Fin 2) : sNo l s < 17 := by revert l s; decide
theorem rNo_lt (l : Bool) (s : Fin 2) : rNo l s < 17 := by revert l s; decide
set_option backward.proofsInPublic true in
def sS (l : Bool) (s : Fin 2) : DmaSem sig := ⟨sNo l s, sNo_lt l s⟩
set_option backward.proofsInPublic true in
def rS (l : Bool) (s : Fin 2) : DmaSem sig := ⟨rNo l s, rNo_lt l s⟩

abbrev barCell (c : Dev nD) : GSem nD τ sig := ((c : Thread nD τ), .reg barS)
abbrev crCell (c : Dev nD) : GSem nD τ sig := ((c : Thread nD τ), .reg crS)
abbrev sCell (l : Bool) (c : Dev nD) (s : Fin 2) : GSem nD τ sig := ((c : Thread nD τ), .dma (sS l s))
abbrev rCell (l : Bool) (c : Dev nD) (s : Fin 2) : GSem nD τ sig := ((c : Thread nD τ), .dma (rS l s))

/-- What a copy of a slot credits. -/
abbrev N (l : Bool) : ℕ := (slot l 0).view.dmaCredit
theorem credit_slot (l : Bool) (s : Fin 2) : (slot l s).view.dmaCredit = N l := by
  revert l s; intro l s; cases l <;> fin_cases s <;> rfl
theorem N_pos (l : Bool) : 0 < N l := by
  cases l <;> exact View.dmaCredit_pos _ (by decide)

/-! ## What a slot is held at -/

variable (X : (l : Bool) → Dev nD → (sh l).Idx → Elt F .bf16)

/-- Device `c`'s slot `s` of lane `l`, at contents `f`. -/
abbrev sPts (l : Bool) (c : Dev nD) (s : Fin 2) (f : Buf (Elt F) ((slot l s).view.loc (c : Thread nD τ))) : sProp 𝕄 :=
  (slot l s).view.loc (c : Thread nD τ) ↦[(slot l s).view.set]{fullShare} f

/-- The slot at contents not chosen, and the slot reading `x`. -/
def sAny (l : Bool) (c : Dev nD) (s : Fin 2) : sProp 𝕄 := iprop(∃ f, sPts l c s f)
def sAt (l : Bool) (c : Dev nD) (s : Fin 2) (x : (sh l).Idx → Elt F .bf16) : sProp 𝕄 :=
  iprop(∃ f, ⌜(slot l s).view.read (Elt F) f = x⌝ ∗ sPts l c s f)

/-- Device `c`'s slot of number `n`, at the shard of the device `n` places back. -/
def held (l : Bool) (c : Dev nD) (n : ℕ) : sProp 𝕄 := sAt l c (par n) (X l (prv^[n] c))

/-- What device `c` needs of `nxt c` for hop `n`: the slots the hop writes, and where their receive cells are. -/
def free (c : Dev nD) (n : ℕ) : sProp 𝕄 :=
  iprop(sAny false (nxt c) (par (n + 1)) ∗ sAny true (nxt c) (par (n + 1))
    ∗ reached ER (rCell false (nxt c) (par (n + 1))) (n / 2) ∗ reached ER (rCell true (nxt c) (par (n + 1))) (n / 2))

/-- What the landing of hop `n` brings device `c`: the shard, and that `prv c` has had the credits before hop `n`. -/
def landed (l : Bool) (c : Dev nD) (n : ℕ) : sProp 𝕄 := iprop(held X l c (n + 1) ∗ reached ER (crCell (prv c)) n)

/-! ## The schedule -/

/-- The hop that round `r` of the own DMA semaphore of number `j` belongs to: a send semaphore's, a receive semaphore's. -/
def hopOf (j r : ℕ) : ℕ := if (j - 9) % 4 < 2 then 2 * r + (j - 9) % 2 else 2 * r + (1 - (j - 9) % 2)

theorem hop_s (l : Bool) (n : ℕ) : hopOf (sNo l (par n)) (n / 2) = n := by
  rcases Nat.mod_two_eq_zero_or_one n with h | h <;> cases l <;> simp [hopOf, sNo, par, h] <;> omega
theorem hop_r (l : Bool) (n : ℕ) : hopOf (rNo l (par (n + 1))) (n / 2) = n := by
  rcases Nat.mod_two_eq_zero_or_one n with h | h <;> cases l <;>
    simp [hopOf, rNo, par, h, show (n + 1) % 2 = 1 - n % 2 by omega] <;> omega

def rd : Rounds.Schedule (GSem nD τ sig) Bool 𝕄 where
  duties g r := if g.1.2 = .tc then
      (match g.2 with
      | .reg b => if b = barS then (if r = 0 then Finset.univ else ∅) else (if r < 30 then {false} else ∅)
      | .dma j => if 9 ≤ j.val ∧ hopOf j.val r < 31 then {false} else ∅)
    else ∅
  unitless _ := False
  amount g _ _ := match g.2 with
    | .reg _ => 1
    | .dma j => if j.val < 13 then N false else N true
  payload g r d := match g.2 with
    | .reg b => if b = barS then (if d then free g.1.1 0 else iprop(emp)) else free g.1.1 (r + 1)
    | .dma j => if (j.val - 9) % 4 < 2 then held X (decide (13 ≤ j.val)) g.1.1 (hopOf j.val r)
        else landed X (decide (13 ≤ j.val)) g.1.1 (hopOf j.val r)
  amount_pos g _ _ _ := by
    split
    · exact Nat.one_pos
    · split <;> exact N_pos _

instance rd_payload_storable (g : GSem nD τ sig) (r : ℕ) (d : Bool) :
    BI.Storable (upEmb : UEmb _ 𝕄) ((rd (F := F) X).payload g r d) := by
  show BI.Storable upEmb (match g.2 with
    | .reg b => if b = barS then (if d then free g.1.1 0 else iprop(emp)) else free g.1.1 (r + 1)
    | .dma j => if (j.val - 9) % 4 < 2 then held X (decide (13 ≤ j.val)) g.1.1 (hopOf j.val r)
        else landed X (decide (13 ≤ j.val)) g.1.1 (hopOf j.val r))
  unfold landed free held sAny sAt
  (repeat' split) <;> infer_instance

section Sched

theorem cr_ne_bar : crS ≠ barS := by decide

theorem duties_bar (c : Dev nD) : (rd (F := F) X).duties (barCell c) 0 = Finset.univ := by
  dsimp only [rd]; rw [if_pos rfl, if_pos rfl, if_pos rfl]
theorem duties_cr (c : Dev nD) (r : ℕ) (h : r < 30) : (rd (F := F) X).duties (crCell c) r = {false} := by
  dsimp only [rd]; rw [if_pos rfl, if_neg cr_ne_bar, if_pos h]
theorem duties_s (l : Bool) (c : Dev nD) (n : ℕ) (h : n < 31) : (rd (F := F) X).duties (sCell l c (par n)) (n / 2) = {false} := by
  dsimp only [rd]
  rw [if_pos rfl, if_pos ⟨sNo_ge l _, by show hopOf (sNo l (par n)) (n / 2) < 31; rw [hop_s]; exact h⟩]
theorem duties_r (l : Bool) (c : Dev nD) (n : ℕ) (h : n < 31) : (rd (F := F) X).duties (rCell l c (par (n + 1))) (n / 2) = {false} := by
  dsimp only [rd]
  rw [if_pos rfl, if_pos ⟨rNo_ge l _, by show hopOf (rNo l (par (n + 1))) (n / 2) < 31; rw [hop_r]; exact h⟩]

theorem duties_bar_later (c : Dev nD) : ∀ r, 1 ≤ r → (rd (F := F) X).duties (barCell c) r = ∅ := fun r hr => by
  dsimp only [rd]; rw [if_pos rfl, if_pos rfl, if_neg (by omega)]
theorem duties_cr_later (c : Dev nD) : ∀ r, 30 ≤ r → (rd (F := F) X).duties (crCell c) r = ∅ := fun r hr => by
  dsimp only [rd]; rw [if_pos rfl, if_neg cr_ne_bar, if_neg (by omega)]
theorem duties_s_later (l : Bool) (c : Dev nD) (s : Fin 2) (R : ℕ) (hR : 31 ≤ 2 * R + s.val) :
    ∀ r, R ≤ r → (rd (F := F) X).duties (sCell l c s) r = ∅ := fun r hr => by
  dsimp only [rd]
  rw [if_pos rfl, if_neg]
  rintro ⟨-, h⟩
  change hopOf (sNo l s) r < 31 at h
  revert h
  fin_cases s <;> cases l <;> simp_all [hopOf, sNo] <;> omega
theorem duties_r_later (l : Bool) (c : Dev nD) (s : Fin 2) (R : ℕ) (hR : 31 ≤ 2 * R + (1 - s.val)) :
    ∀ r, R ≤ r → (rd (F := F) X).duties (rCell l c s) r = ∅ := fun r hr => by
  dsimp only [rd]
  rw [if_pos rfl, if_neg]
  rintro ⟨-, h⟩
  change hopOf (rNo l s) r < 31 at h
  revert h
  fin_cases s <;> cases l <;> simp_all [hopOf, rNo] <;> omega

theorem amount_bar (c : Dev nD) (r : ℕ) (d : Bool) : (rd (F := F) X).amount (barCell c) r d = 1 := rfl
theorem amount_cr (c : Dev nD) (r : ℕ) (d : Bool) : (rd (F := F) X).amount (crCell c) r d = 1 := rfl
theorem amount_s (l : Bool) (c : Dev nD) (s : Fin 2) (r : ℕ) (d : Bool) : (rd (F := F) X).amount (sCell l c s) r d = N l := by
  show (if (sS l s).val < 13 then N false else N true) = N l
  fin_cases s <;> cases l <;> rfl
theorem amount_r (l : Bool) (c : Dev nD) (s : Fin 2) (r : ℕ) (d : Bool) : (rd (F := F) X).amount (rCell l c s) r d = N l := by
  show (if (rS l s).val < 13 then N false else N true) = N l
  fin_cases s <;> cases l <;> rfl

theorem expect_bar (c : Dev nD) : (rd (F := F) X).expect (barCell c) 0 = 2 := by
  unfold Schedule.expect Schedule.amountOf; rw [duties_bar]; rfl
theorem expect_cr (c : Dev nD) (r : ℕ) (h : r < 30) : (rd (F := F) X).expect (crCell c) r = 1 := by
  unfold Schedule.expect Schedule.amountOf; rw [duties_cr X c r h, Finset.sum_singleton, amount_cr]
theorem expect_s (l : Bool) (c : Dev nD) (n : ℕ) (h : n < 31) : (rd (F := F) X).expect (sCell l c (par n)) (n / 2) = N l := by
  unfold Schedule.expect Schedule.amountOf; rw [duties_s X l c n h, Finset.sum_singleton, amount_s]
theorem expect_r (l : Bool) (c : Dev nD) (n : ℕ) (h : n < 31) : (rd (F := F) X).expect (rCell l c (par (n + 1))) (n / 2) = N l := by
  unfold Schedule.expect Schedule.amountOf; rw [duties_r X l c n h, Finset.sum_singleton, amount_r]

theorem payload_bar_t (c : Dev nD) : (rd (F := F) X).payload (barCell c) 0 true = free c 0 := by
  dsimp only [rd]; rw [if_pos rfl, if_pos rfl]
theorem payload_bar_f (c : Dev nD) : (rd (F := F) X).payload (barCell c) 0 false = iprop(emp) := by
  dsimp only [rd]; rw [if_pos rfl, if_neg (by decide)]
theorem payload_cr (c : Dev nD) (r : ℕ) (d : Bool) : (rd (F := F) X).payload (crCell c) r d = free c (r + 1) := by
  dsimp only [rd]; rw [if_neg cr_ne_bar]
theorem sNo_kind (l : Bool) (s : Fin 2) : (sNo l s - 9) % 4 < 2 ∧ decide (13 ≤ sNo l s) = l := by revert l s; decide
theorem rNo_kind (l : Bool) (s : Fin 2) : ¬ (rNo l s - 9) % 4 < 2 ∧ decide (13 ≤ rNo l s) = l := by revert l s; decide
theorem payload_s (l : Bool) (c : Dev nD) (n : ℕ) (d : Bool) : (rd (F := F) X).payload (sCell l c (par n)) (n / 2) d = held X l c n := by
  show (if (sNo l (par n) - 9) % 4 < 2 then held X (decide (13 ≤ sNo l (par n))) c (hopOf (sNo l (par n)) (n / 2))
    else landed X (decide (13 ≤ sNo l (par n))) c (hopOf (sNo l (par n)) (n / 2))) = _
  rw [if_pos (sNo_kind l _).1, (sNo_kind l _).2, hop_s]
theorem payload_r (l : Bool) (c : Dev nD) (n : ℕ) (d : Bool) :
    (rd (F := F) X).payload (rCell l c (par (n + 1))) (n / 2) d = landed X l c n := by
  show (if (rNo l (par (n + 1)) - 9) % 4 < 2 then held X (decide (13 ≤ rNo l (par (n + 1)))) c (hopOf (rNo l (par (n + 1))) (n / 2))
    else landed X (decide (13 ≤ rNo l (par (n + 1)))) c (hopOf (rNo l (par (n + 1))) (n / 2))) = _
  rw [if_neg (rNo_kind l _).1, (rNo_kind l _).2, hop_r]

theorem rest_bar (c : Dev nD) : bigSep ((rd (F := F) X).duties (barCell c) 0 \ ∅) (fun u => (rd (F := F) X).payload (barCell c) 0 u)
    ⊢ (free c 0 : sProp 𝕄) := by
  rw [Finset.sdiff_empty, duties_bar, show (Finset.univ : Finset Bool) = insert true {false} from by decide,
    bigSep_insert (by decide), bigSep_singleton, payload_bar_t, payload_bar_f]
  exact Laws.sep_emp.1
theorem rest_cr (c : Dev nD) (r : ℕ) (h : r < 30) :
    bigSep ((rd (F := F) X).duties (crCell c) r \ ∅) (fun u => (rd (F := F) X).payload (crCell c) r u) = (free c (r + 1) : sProp 𝕄) := by
  rw [Finset.sdiff_empty, duties_cr X c r h, bigSep_singleton, payload_cr]
theorem rest_s (l : Bool) (c : Dev nD) (n : ℕ) (h : n < 31) :
    bigSep ((rd (F := F) X).duties (sCell l c (par n)) (n / 2) \ ∅) (fun u => (rd (F := F) X).payload (sCell l c (par n)) (n / 2) u)
      = held X l c n := by
  rw [Finset.sdiff_empty, duties_s X l c n h, bigSep_singleton, payload_s]
theorem rest_r (l : Bool) (c : Dev nD) (n : ℕ) (h : n < 31) :
    bigSep ((rd (F := F) X).duties (rCell l c (par (n + 1))) (n / 2) \ ∅) (fun u => (rd (F := F) X).payload (rCell l c (par (n + 1))) (n / 2) u)
      = landed X l c n := by
  rw [Finset.sdiff_empty, duties_r X l c n h, bigSep_singleton, payload_r]

end Sched

/-! ## Dues and levels -/

/-- What device `c` pays others in hop `k`: the copies into `nxt c`, the credit of `prv c`. -/
def due (c : Dev nD) (k : ℕ) : CellTallies nD τ sig ℕ :=
  (if k < 30 then tallyAt (crCell (prv c)) k 1 else 0)
    + tallyAt (rCell true (nxt c) (par (k + 1))) k (N true) + tallyAt (rCell false (nxt c) (par (k + 1))) k (N false)

/-- What it owes from hop `n` on. -/
def owe (c : Dev nD) (n : ℕ) : CellTallies nD τ sig ℕ := ∑ k ∈ Finset.Ico n 31, due c k

theorem owe_step (c : Dev nD) (n : ℕ) (h : n < 31) : owe c n = owe c (n + 1) + due c n := by
  unfold owe; rw [show Finset.Ico n 31 = insert n (Finset.Ico (n + 1) 31) from by
    ext k; simp only [Finset.mem_Ico, Finset.mem_insert]; omega, Finset.sum_insert (by simp), add_comm]
theorem owe_end (c : Dev nD) : owe c 31 = 0 := by unfold owe; simp

def L (g : GSem nD τ sig) : Finset ℕ := if g.1.2 = .tc then Finset.range 32 else ∅
/-- Barrier 1; a receive cell in hop `n` at `2 n + 2`, the credit of round `n` at `2 n + 3`; send and staging cells 0. -/
def lv (g : GSem nD τ sig) (n : ℕ) : ℕ := match g.2 with
  | .reg b => if b = barS then 1 else 2 * n + 3
  | .dma j => if 9 ≤ j.val ∧ 2 ≤ (j.val - 9) % 4 then 2 * n + 2 else 0

theorem L_of_ne (g : GSem nD τ sig) (h : g.1.2 ≠ .tc) : L g = ∅ := if_neg h
theorem L_tc (c : Dev nD) (sm : SemLoc sig) : L ((c : Thread nD τ), sm) = Finset.range 32 := if_pos rfl
theorem lv_bar (c : Dev nD) (n : ℕ) : lv (barCell c) n = 1 := by
  show (if barS = barS then 1 else 2 * n + 3) = 1
  exact if_pos rfl
theorem lv_cr (c : Dev nD) (n : ℕ) : lv (crCell c) n = 2 * n + 3 := by
  show (if crS = barS then 1 else 2 * n + 3) = _
  exact if_neg cr_ne_bar
theorem lv_s (l : Bool) (c : Dev nD) (s : Fin 2) (n : ℕ) : lv (sCell l c s) n = 0 :=
  if_neg (by show ¬ (9 ≤ sNo l s ∧ 2 ≤ (sNo l s - 9) % 4); revert l s; decide)
theorem lv_r (l : Bool) (c : Dev nD) (s : Fin 2) (n : ℕ) : lv (rCell l c s) n = 2 * n + 2 :=
  if_pos (by show 9 ≤ rNo l s ∧ 2 ≤ (rNo l s - 9) % 4; revert l s; decide)

theorem tallyAt_pos {g g' : GSem nD τ sig} {i i' : ℕ} {k : ℕ} (h : 0 < (tallyAt g i k : CellTallies nD τ sig ℕ) g' i') : g' = g ∧ i' = i := by
  rw [tallyAt_apply] at h
  by_contra hc
  rw [if_neg hc] at h
  exact absurd h (Nat.lt_irrefl 0)

theorem due_pos {c : Dev nD} {k : ℕ} {g : GSem nD τ sig} {i : ℕ} (h : 0 < due c k g i) :
    i = k ∧ ((g = crCell (prv c) ∧ k < 30) ∨ ∃ l, g = rCell l (nxt c) (par (k + 1))) := by
  unfold due at h
  rw [Pi.add_apply, Finsupp.add_apply, Pi.add_apply, Finsupp.add_apply] at h
  rcases Nat.add_pos_iff_pos_or_pos.mp h with h | h
  · rcases Nat.add_pos_iff_pos_or_pos.mp h with h | h
    · split at h
      · next hk => exact ⟨(tallyAt_pos h).2, .inl ⟨(tallyAt_pos h).1, hk⟩⟩
      · exact absurd h (Nat.lt_irrefl 0)
    · exact ⟨(tallyAt_pos h).2, .inr ⟨_, (tallyAt_pos h).1⟩⟩
  · exact ⟨(tallyAt_pos h).2, .inr ⟨_, (tallyAt_pos h).1⟩⟩

theorem owe_pos {c : Dev nD} {n : ℕ} {g : GSem nD τ sig} {i : ℕ} (h : 0 < owe c n g i) :
    n ≤ i ∧ i < 31 ∧ ((g = crCell (prv c) ∧ i < 30) ∨ ∃ l, g = rCell l (nxt c) (par (i + 1))) := by
  unfold owe at h
  rw [Finset.sum_apply, Finsupp.finset_sum_apply] at h
  obtain ⟨k, hk, hp⟩ := Finset.exists_ne_zero_of_sum_ne_zero (Nat.pos_iff_ne_zero.mp h)
  obtain ⟨rfl, hc⟩ := due_pos (Nat.pos_of_ne_zero hp)
  rw [Finset.mem_Ico] at hk
  exact ⟨hk.1, hk.2, hc⟩

theorem owe_level {c : Dev nD} {n : ℕ} {g : GSem nD τ sig} {i : ℕ} (h : 0 < owe c n g i) : i ∈ L g ∧ 2 * n + 1 < lv g i := by
  obtain ⟨h1, h2, ⟨rfl, h3⟩ | ⟨l, rfl⟩⟩ := owe_pos h
  · exact ⟨by rw [L_tc]; exact Finset.mem_range.mpr (by omega), by rw [lv_cr]; omega⟩
  · exact ⟨by rw [L_tc]; exact Finset.mem_range.mpr (by omega), by rw [lv_r]; omega⟩

/-- A wait on a cell of level at most `k` while owing only above `k`. -/
theorem mayWait_of (c : Dev nD) (sm : SemLoc sig) (i k : ℕ) (O : CellTallies nD τ sig ℕ) (hi : i < 32) (hl : lv ((c : Thread nD τ), sm) i ≤ k)
    (hO : ∀ g j, 0 < O g j → j ∈ L g ∧ k < lv g j) :
    (levAts L lv : sProp 𝕄) ⊢ MayWait (c : Thread nD τ) sm i O :=
  MayOwe.of_cut (L := L) (lev := lv) k
    (fun p hp => by rw [Finset.mem_singleton.mp hp, L_tc]; exact Finset.mem_range.mpr hi)
    (fun g u hg => (hO g u hg).1)
    (fun p hp => by rw [Finset.mem_singleton.mp hp]; exact hl)
    (fun g u hg => (hO g u hg).2)

end Cert.RingProof

end
-- ==== Proof.Ring.Hop.lean ====
/-
  The steps of a hop, each at any operation that is the protocol's: the memrefs, the semaphores and the device of the program
  enter by equations.
-/
module

public import proofs.«01_k».proof.Proof.Ring.Protocol

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : (l : Bool) → Dev nD → (sh l).Idx → Elt F .bf16)

/-! ## The cells -/

/-- The region's own semaphores. -/
abbrev osem : Fin 9 → SemLoc sig := fun
  | 0 => .reg crS
  | 1 => .dma (sS false 0) | 2 => .dma (sS false 1) | 3 => .dma (rS false 0) | 4 => .dma (rS false 1)
  | 5 => .dma (sS true 0) | 6 => .dma (sS true 1) | 7 => .dma (rS true 0) | 8 => .dma (rS true 1)

theorem osem_inj : Function.Injective osem := by decide
theorem osem_ne_bar : ∀ k : Fin 9, osem k ≠ .reg barS := by decide

set_option backward.proofsInPublic true in
def barEmb : Dev nD ↪ GSem nD τ sig := ⟨fun c => barCell c, fun _ _ h => congrArg (fun g : GSem nD τ sig => g.1.1) h⟩
set_option backward.proofsInPublic true in
def scEmb : Dev nD × Fin 9 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 9) : (((c : Thread nD τ), osem k) : GSem nD τ sig) ∈ (barCells ∪ scCells : Finset (GSem nD τ sig)) :=
  Finset.mem_union_right _ (Finset.mem_map_of_mem scEmb (Finset.mem_univ (c, k)))
theorem cr_mem (c : Dev nD) : crCell c ∈ (barCells ∪ scCells : Finset (GSem nD τ sig)) := sc_mem c 0
theorem s_mem (l : Bool) (c : Dev nD) (s : Fin 2) : sCell l c s ∈ (barCells ∪ scCells : Finset (GSem nD τ sig)) := by
  cases l <;> fin_cases s
  exacts [sc_mem c 1, sc_mem c 2, sc_mem c 5, sc_mem c 6]
theorem r_mem (l : Bool) (c : Dev nD) (s : Fin 2) : rCell l c s ∈ (barCells ∪ scCells : Finset (GSem nD τ sig)) := by
  cases l <;> fin_cases s
  exacts [sc_mem c 3, sc_mem c 4, sc_mem c 7, sc_mem c 8]

/-- Every level. -/
def levs (_ : Unit) : sProp 𝕄 := levAts L lv
instance levs_persistent : BI.Persistent (levs (F := F) ()) := by unfold levs; infer_instance

/-- Every cell's invariant, at the names the launch chose; and every barrier cell and every level. Persistent. -/
def recs (K : GSem nD τ sig → ℕ) : sProp 𝕄 :=
  iprop((bigSep (barCells ∪ scCells) fun g => cellInv ER (rd X) (K g) g) ∗ (bigSep barCells fun g => reached ER g 0) ∗ levs (F := F) ())

instance recs_persistent (K : GSem nD τ sig → ℕ) : BI.Persistent (recs X K) := by unfold recs; infer_instance

theorem invs_at (K : GSem nD τ sig → ℕ) {g : GSem nD τ sig} (hg : g ∈ (barCells ∪ scCells : Finset (GSem nD τ sig))) :
    (bigSep (barCells ∪ scCells) fun g => (cellInv ER (rd X) (K g) g : sProp 𝕄)) ⊢ cellInv ER (rd X) (K g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

theorem recs_inv (K : GSem nD τ sig → ℕ) {g : GSem nD τ sig} (hg : g ∈ (barCells ∪ scCells : Finset (GSem nD τ sig))) :
    recs X K ⊢ (cellInv ER (rd X) (K g) g : sProp 𝕄) := by
  unfold recs
  iintro ⟨H, -, -⟩
  iapply (invs_at X K hg) $$ H
theorem recs_reached (K : GSem nD τ sig → ℕ) (c : Dev nD) : recs X K ⊢ (reached ER (barCell c) 0 : sProp 𝕄) := by
  unfold recs
  iintro ⟨-, H, -⟩
  iapply (reached_at (F := F) c) $$ H

theorem levs_wait (K : GSem nD τ sig → ℕ) (c : Dev nD) (sm : SemLoc sig) (i k : ℕ) (O : CellTallies nD τ sig ℕ) (hi : i < 32) (hl : lv ((c : Thread nD τ), sm) i ≤ k)
    (hO : ∀ g j, 0 < O g j → j ∈ L g ∧ k < lv g j) : recs X K ⊢ (MayWait (c : Thread nD τ) sm i O : sProp 𝕄) := by
  unfold recs levs
  iintro ⟨-, -, H⟩
  iapply (mayWait_of c sm i k O hi hl hO) $$ H

/-! ## What a device carries from hop to hop -/

/-- What a thread owes, its record of waits not chosen. -/
def ow (c : Dev nD) (O : CellTallies nD τ sig ℕ) : sProp 𝕄 := iprop(∃ W, owes (c : Thread nD τ) O W)

theorem ow_intro (c : Dev nD) (O : CellTallies nD τ sig ℕ) (W : Waits sig ℕ) : (owes (c : Thread nD τ) O W : sProp 𝕄) ⊢ ow c O := by
  unfold ow; iintro H; iexists W; iexact H

theorem ow_elim (c : Dev nD) (O : CellTallies nD τ sig ℕ) : ow c O ⊢ (iprop(∃ W, owes (c : Thread nD τ) O W) : sProp 𝕄) := by
  unfold ow; exact BI.Entails.refl _

/-- A cell's position, with the record that its round is reached. -/
def pos (g : GSem nD τ sig) (R : ℕ) : sProp 𝕄 := iprop(atPos ER g R ∅ 0 ∗ reached ER g R)

/-- A lane's four cells before hop `n`. -/
def lane (l : Bool) (c : Dev nD) (n : ℕ) : sProp 𝕄 :=
  iprop(pos (sCell l c (par n)) (n / 2) ∗ pos (sCell l c (par (n + 1))) ((n + 1) / 2)
    ∗ pos (rCell l c (par (n + 1))) (n / 2) ∗ pos (rCell l c (par n)) ((n + 1) / 2))

/-- What device `c` pays with in hop `n`, and waits with. -/
def toks (l : Bool) (c : Dev nD) (n : ℕ) : sProp 𝕄 :=
  iprop(dutyTok ER (sCell l c (par n)) (n / 2) false ∗ dutyTok ER (rCell l (nxt c) (par (n + 1))) (n / 2) false
    ∗ cred (tallyAt (rCell l c (par (n + 1))) n (N l)))
def crTok (c : Dev nD) (n : ℕ) : sProp 𝕄 :=
  iprop(dutyTok ER (crCell (prv c)) n false ∗ cred (tallyAt (crCell c) n 1))

/-- What it owes in hop `n` once both copies are issued. -/
def mid (c : Dev nD) (n : ℕ) : CellTallies nD τ sig ℕ := owe c (n + 1) + if n < 30 then tallyAt (crCell (prv c)) n 1 else 0

theorem mid_eq (c : Dev nD) (n : ℕ) (h : n < 31) :
    owe c n = mid c n + tallyAt (rCell true (nxt c) (par (n + 1))) n (N true) + tallyAt (rCell false (nxt c) (par (n + 1))) n (N false) := by
  rw [owe_step c n h]; unfold due mid; rw [add_assoc, add_assoc, add_assoc]

theorem mid_level {c : Dev nD} {n : ℕ} {g : GSem nD τ sig} {i : ℕ} (h : 0 < mid c n g i) : i ∈ L g ∧ 2 * n + 2 < lv g i := by
  unfold mid at h
  rw [Pi.add_apply, Finsupp.add_apply] at h
  rcases Nat.add_pos_iff_pos_or_pos.mp h with h | h
  · exact ⟨(owe_level h).1, by have := (owe_level h).2; omega⟩
  · split at h
    · next hn =>
      obtain ⟨rfl, rfl⟩ := tallyAt_pos h
      exact ⟨by rw [L_tc]; exact Finset.mem_range.mpr (by omega), by rw [lv_cr]; omega⟩
    · exact absurd h (Nat.lt_irrefl 0)

/-! ## The steps -/

variable {α : Type} {Q : α → sProp (MT nD τ sig ℕ (Elt F) ℕ UU ℕ)} (K : GSem nD τ sig → ℕ) (c : Dev nD)

/-- The copy of a lane's slot in hop `n`. -/
theorem send_step (l : Bool) (n : ℕ) (hn : n < 31) {src dst : Memref sig .tc .vmem (sh l) .bf16} {a b : DmaSem sig} {n' : Dev nD}
    (hsrc : src = slot l (par n)) (hdst : dst = slot l (par (n + 1))) (ha : a = sS l (par n)) (hb : b = rS l (par (n + 1))) (hd : n' = nxt c)
    {hsc : dst.view.ref.isScScratch = false} {h1 : src.view.WordExact} {h2 : dst.view.WordExact} {h3}
    {k : PUnit → Prog (TpuEff nD τ sig (Elt F) Λ₀ .tc) α} (O : CellTallies nD τ sig ℕ) :
    iprop(recs X K ∗ held X l c n ∗ sAny l (nxt c) (par (n + 1)) ∗ ow c (O + tallyAt (rCell l (nxt c) (par (n + 1))) n (N l)) ∗ reached ER (crCell c) n
        ∗ dutyTok ER (sCell l c (par n)) (n / 2) false ∗ reached ER (sCell l c (par n)) (n / 2)
        ∗ dutyTok ER (rCell l (nxt c) (par (n + 1))) (n / 2) false ∗ reached ER (rCell l (nxt c) (par (n + 1))) (n / 2))
      ⊢ iprop(((cred (tallyAt (sCell l c (par n)) 0 (N l)) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc n') dst (.dma a) hsc) (.dma b) h1 h2 h3) k) Q) := by
  subst hsrc hdst ha hb hd
  unfold held sAt sAny
  iintro ⟨#HI, ⟨%fs, %hfs, Hs⟩, ⟨%fd, Hd⟩, HO, Hcr, Ht1, Hr1, Ht2, Hr2⟩ Hk
  ihave HO' := (ow_elim c _) $$ HO
  icases HO' with ⟨%W, HO⟩
  ihave #HI1 := (recs_inv X K (s_mem l c (par n))) $$ HI
  ihave #HI2 := (recs_inv X K (r_mem l (nxt c) (par (n + 1)))) $$ HI
  iapply (Rounds.wp_send_pointsTo_with 𝒱₀ ER (rd X) (c : Thread nD τ) none (c' := (nxt c : Thread nD τ)) (src := slot l (par n)) (dst := slot l (par (n + 1)))
      (sS := .dma (sS l (par n))) (sem := .dma (rS l (par (n + 1)))) (q := fullShare) (fs := fs) (κ₁ := K (sCell l c (par n)))
      (κ₂ := K (rCell l (nxt c) (par (n + 1)))) (r₁ := n / 2) (r₂ := n / 2) (d₁ := false) (d₂ := false) (fd := fd) (F := reached ER (crCell c) n)
      (by rw [duties_s X l c n hn]; exact Finset.mem_singleton_self _) (by rw [duties_r X l (nxt c) n hn]; exact Finset.mem_singleton_self _)
      n 0 (N l) (credit_slot l _) (amount_s X l c _ _ _) (amount_r X l (nxt c) _ _ _) O rfl (W := W)
      (by rw [payload_s]; unfold held sAt; iintro H; iexists fs; isplitr; · ipureintro; exact hfs
          iexact H)
      (by rw [payload_r]; unfold landed held sAt; iintro ⟨H, Hcr⟩; rw [prv_nxt]; isplitl [H]
          · iexists ((slot l (par (n + 1))).view.write (Elt F) fd ((slot l (par n)).view.read (Elt F) fs) Finset.univ); isplitr
            · ipureintro; exact (View.read_write_univ _ _).trans (hfs.trans (by rw [back_nxt]))
            iexact H
          iexact Hcr)) $$ [Hs Hd HO Hcr Ht1 Hr1 Ht2 Hr2]
  · isplitr; · iexact HI1
    isplitr; · iexact HI2
    isplitl [Hs]; · iexact Hs
    isplitl [Hd Hcr]; · isplitl [Hd] <;> iassumption
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iapply (ow_intro c _ _) $$ HO

/-- The wait for a lane's own copy in hop `n`. -/
theorem waitS_step (l : Bool) (n : ℕ) (hn : n < 31) {vA vB : Memref sig .tc .vmem (sh l) .bf16} {a : DmaSem sig}
    (ha : a = sS l (par n)) (hB : vB.view.dmaCredit = N l)
    {h1 : vA.view.WordExact} {h2 : vB.view.WordExact} {k : PUnit → Prog (TpuEff nD τ sig (Elt F) Λ₀ .tc) α} :
    iprop(recs X K ∗ cred (tallyAt (sCell l c (par n)) 0 (N l)) ∗ ow c (mid c n) ∗ atPos ER (sCell l c (par n)) (n / 2) ∅ 0)
      ⊢ iprop(((ow c (mid c n) ∗ pos (sCell l c (par n)) (n / 2 + 1) ∗ held X l c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 a vA vB h1 h2) k) Q) := by
  subst ha
  iintro ⟨#HI, Hc, HO, Ha⟩ Hk
  ihave HO' := (ow_elim c _) $$ HO
  icases HO' with ⟨%W, HO⟩
  ihave #HI1 := (recs_inv X K (s_mem l c (par n))) $$ HI
  iapply (Rounds.wp_wait_rest_token 𝒱₀ ER (rd X) (c : Thread nD τ) none (κ := K (sCell l c (par n)))
      (wpE_waitDma2_eq (src := vA) (dst := vB) 𝒱₀ (c : Thread nD τ) none Set.univ) (Set.mem_univ _) 0 (O := mid c n) (W := W) (R := n / 2) (m := 0) (T := ∅)
      ((Nat.zero_add _).trans (hB.trans (expect_s X l c n hn).symm))) $$ [Hc HO Ha]
  · isplitr; · iexact HI1
    isplitl [Hc]; · rw [hB]; iexact Hc
    isplitl [HO]; · iexact HO
    isplitr
    · iapply (levs_wait X K c (.dma (sS l (par n))) 0 0 (mid c n) (by decide) (by rw [lv_s]) (fun g j h => ⟨(mid_level h).1, by have := (mid_level h).2; omega⟩)) $$ HI
    iexact Ha
  iintro ⟨HO, Ha, Hr, Hpay⟩
  ihave Hpay := (Entails.of_eq (rest_s X l c n hn)) $$ Hpay
  iapply Hk
  isplitl [HO]; · iapply (ow_intro c _ _) $$ HO
  isplitl [Ha Hr]; · unfold pos; isplitl [Ha] <;> iassumption
  iexact Hpay

/-- The wait for the copy into a lane's slot in hop `n`. -/
theorem waitR_step (l : Bool) (n : ℕ) (hn : n < 31) {vA vB : Memref sig .tc .vmem (sh l) .bf16} {b : DmaSem sig}
    (hb : b = rS l (par (n + 1))) (hB : vB.view.dmaCredit = N l)
    {h1 : vA.view.WordExact} {h2 : vB.view.WordExact} {k : PUnit → Prog (TpuEff nD τ sig (Elt F) Λ₀ .tc) α} :
    iprop(recs X K ∗ cred (tallyAt (rCell l c (par (n + 1))) n (N l)) ∗ ow c (mid c n) ∗ atPos ER (rCell l c (par (n + 1))) (n / 2) ∅ 0)
      ⊢ iprop(((ow c (mid c n) ∗ pos (rCell l c (par (n + 1))) (n / 2 + 1) ∗ landed X l c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 b vA vB h1 h2) k) Q) := by
  subst hb
  iintro ⟨#HI, Hc, HO, Ha⟩ Hk
  ihave HO' := (ow_elim c _) $$ HO
  icases HO' with ⟨%W, HO⟩
  ihave #HI1 := (recs_inv X K (r_mem l c (par (n + 1)))) $$ HI
  iapply (Rounds.wp_wait_rest_token 𝒱₀ ER (rd X) (c : Thread nD τ) none (κ := K (rCell l c (par (n + 1))))
      (wpE_waitDma2_eq (src := vA) (dst := vB) 𝒱₀ (c : Thread nD τ) none Set.univ) (Set.mem_univ _) n (O := mid c n) (W := W) (R := n / 2) (m := 0) (T := ∅)
      ((Nat.zero_add _).trans (hB.trans (expect_r X l c n hn).symm))) $$ [Hc HO Ha]
  · isplitr; · iexact HI1
    isplitl [Hc]; · rw [hB]; iexact Hc
    isplitl [HO]; · iexact HO
    isplitr
    · iapply (levs_wait X K c (.dma (rS l (par (n + 1)))) n (2 * n + 2) (mid c n) (by omega) (by rw [lv_r]) (fun g j h => mid_level h)) $$ HI
    iexact Ha
  iintro ⟨HO, Ha, Hr, Hpay⟩
  ihave Hpay := (Entails.of_eq (rest_r X l c n hn)) $$ Hpay
  iapply Hk
  isplitl [HO]; · iapply (ow_intro c _ _) $$ HO
  isplitl [Ha Hr]; · unfold pos; isplitl [Ha] <;> iassumption
  iexact Hpay

/-- The wait for the credit of round `n`, before hop `n + 1`. -/
theorem credit_wait_step (n : ℕ) (hn : n < 30) {s : Sem sig} (hs : s = crS) {w : BitVec 32} (hw : w = 1#32)
    {k : PUnit → Prog (TpuEff nD τ sig (Elt F) Λ₀ .tc) α} :
    iprop(recs X K ∗ cred (tallyAt (crCell c) n 1) ∗ ow c (owe c (n + 1)) ∗ atPos ER (crCell c) n ∅ 0)
      ⊢ iprop(((ow c (owe c (n + 1)) ∗ pos (crCell c) (n + 1) ∗ free c (n + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s w.toInt) k) Q) := by
  subst hs hw
  iintro ⟨#HI, Hc, HO, Ha⟩ Hk
  ihave HO' := (ow_elim c _) $$ HO
  icases HO' with ⟨%W, HO⟩
  ihave #HI1 := (recs_inv X K (cr_mem c)) $$ HI
  iapply (Rounds.wp_wait_rest_token 𝒱₀ ER (rd X) (c : Thread nD τ) none (κ := K (crCell c))
      (wpE_semWait_eq 𝒱₀ (c : Thread nD τ) none Set.univ) (Set.mem_univ _) n (O := owe c (n + 1)) (W := W) (R := n) (m := 0) (T := ∅)
      ((Nat.zero_add _).trans (expect_cr X c n hn).symm)) $$ [Hc HO Ha]
  · isplitr; · iexact HI1
    isplitl [Hc]; · iexact Hc
    isplitl [HO]; · iexact HO
    isplitr
    · iapply (levs_wait X K c (.reg crS) n (2 * n + 3) (owe c (n + 1)) (by omega) (by rw [lv_cr]) (fun g j h => ⟨(owe_level h).1, by have := (owe_level h).2; omega⟩)) $$ HI
    iexact Ha
  iintro ⟨HO, Ha, Hr, Hpay⟩
  ihave Hpay := (Entails.of_eq (rest_cr X c n hn)) $$ Hpay
  iapply Hk
  isplitl [HO]; · iapply (ow_intro c _ _) $$ HO
  isplitl [Ha Hr]; · unfold pos; isplitl [Ha] <;> iassumption
  iexact Hpay

/-- The signal by which device `c` frees its slots after hop `n` for hop `n + 1` of `prv c`. -/
theorem credit_signal_step (n : ℕ) (hn : n < 30) {n' : Dev nD} (hd : n' = prv c) {s : Sem sig} (hs : s = crS) {w : BitVec 32} (hw : w = 1#32)
    {k : PUnit → Prog (TpuEff nD τ sig (Elt F) Λ₀ .tc) α} :
    iprop(recs X K ∗ ow c (mid c n) ∗ dutyTok ER (crCell (prv c)) n false ∗ reached ER (crCell (prv c)) n
        ∗ held X false c n ∗ held X true c n ∗ reached ER (rCell false c (par n)) ((n + 1) / 2) ∗ reached ER (rCell true c (par n)) ((n + 1) / 2))
      ⊢ iprop((ow c (owe c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n') s w.toInt) k) Q) := by
  subst hd hs hw
  unfold held sAt
  iintro ⟨#HI, HO, Ht, Hr, ⟨%f1, -, H1⟩, ⟨%f2, -, H2⟩, Hr1, Hr2⟩ Hk
  ihave HO' := (ow_elim c _) $$ HO
  icases HO' with ⟨%W, HO⟩
  ihave #HI1 := (recs_inv X K (cr_mem (prv c))) $$ HI
  iapply (Rounds.wp_signal 𝒱₀ ER (rd X) (c : Thread nD τ) none (dst := (prv c : Thread nD τ)) (sem := crS) (r := n) (d := false) (κ := K (crCell (prv c)))
      (by rw [duties_cr X (prv c) n hn]; exact Finset.mem_singleton_self _) (amount_cr X (prv c) n false) n (owe c (n + 1)) (O₀ := mid c n) (by unfold mid; rw [if_pos hn]) (W := W))
    $$ [HO Ht Hr H1 H2 Hr1 Hr2]
  · isplitr; · iexact HI1
    isplitl [HO]; · iexact HO
    isplitl [Ht]; · iexact Ht
    isplitr [Hr]
    · rw [payload_cr]; unfold free sAny; rw [nxt_prv, par_add_two]
      isplitl [H1]; · iexists f1; iexact H1
      isplitl [H2]; · iexists f2; iexact H2
      isplitl [Hr1] <;> iassumption
    · iexact Hr
  iintro HO
  iapply Hk
  iapply (ow_intro c _ _) $$ HO

theorem lane_step (l : Bool) (c : Dev nD) (n : ℕ) :
    iprop(pos (sCell l c (par n)) (n / 2 + 1) ∗ pos (sCell l c (par (n + 1))) ((n + 1) / 2)
      ∗ pos (rCell l c (par (n + 1))) (n / 2 + 1) ∗ pos (rCell l c (par n)) ((n + 1) / 2)) ⊢ (lane l c (n + 1) : sProp 𝕄) := by
  unfold lane
  rw [show n + 1 + 1 = n + 2 from rfl, par_add_two, show (n + 2) / 2 = n / 2 + 1 by omega]
  iintro ⟨H1, H2, H3, H4⟩
  isplitl [H2]; · iexact H2
  isplitl [H1]; · iexact H1
  isplitl [H4] <;> iassumption

theorem lane_elim (l : Bool) (c : Dev nD) (n : ℕ) : lane l c n ⊢
    (iprop((atPos ER (sCell l c (par n)) (n / 2) ∅ 0 ∗ reached ER (sCell l c (par n)) (n / 2)) ∗ pos (sCell l c (par (n + 1))) ((n + 1) / 2)
      ∗ (atPos ER (rCell l c (par (n + 1))) (n / 2) ∅ 0 ∗ reached ER (rCell l c (par (n + 1))) (n / 2)) ∗ pos (rCell l c (par n)) ((n + 1) / 2)) : sProp 𝕄) := by
  unfold lane pos; exact BI.Entails.refl _
theorem pos_elim (g : GSem nD τ sig) (R : ℕ) : pos g R ⊢ (iprop(atPos ER g R ∅ 0 ∗ reached ER g R) : sProp 𝕄) := by
  unfold pos; exact BI.Entails.refl _
theorem free_elim (c : Dev nD) (n : ℕ) : free c n ⊢ (iprop(sAny false (nxt c) (par (n + 1)) ∗ sAny true (nxt c) (par (n + 1))
    ∗ reached ER (rCell false (nxt c) (par (n + 1))) (n / 2) ∗ reached ER (rCell true (nxt c) (par (n + 1))) (n / 2)) : sProp 𝕄) := by
  unfold free; exact BI.Entails.refl _
theorem toks_elim (l : Bool) (c : Dev nD) (n : ℕ) : toks l c n ⊢
    (iprop(dutyTok ER (sCell l c (par n)) (n / 2) false ∗ dutyTok ER (rCell l (nxt c) (par (n + 1))) (n / 2) false
    ∗ cred (tallyAt (rCell l c (par (n + 1))) n (N l))) : sProp 𝕄) := by
  unfold toks; exact BI.Entails.refl _
theorem landed_elim (l : Bool) (c : Dev nD) (n : ℕ) : landed X l c n ⊢ (iprop(held X l c (n + 1) ∗ reached ER (crCell (prv c)) n) : sProp 𝕄) := by
  unfold landed; exact BI.Entails.refl _

/-- A hop: both copies, and the four waits. -/
theorem hop_run (n : ℕ) (hn : n < 31)
    {qs qd q1 q2 q3 q4 : Memref sig .tc .vmem (sh false) .bf16} {ws wd w1 w2 w3 w4 : Memref sig .tc .vmem (sh true) .bf16}
    {a b a' b' aw bw aw' bw' : DmaSem sig} {n₁ n₂ : Dev nD}
    (hqs : qs = slot false (par n)) (hqd : qd = slot false (par (n + 1))) (ha : a = sS false (par n)) (hb : b = rS false (par (n + 1))) (hn₁ : n₁ = nxt c)
    (hws : ws = slot true (par n)) (hwd : wd = slot true (par (n + 1))) (haw : aw = sS true (par n)) (hbw : bw = rS true (par (n + 1))) (hn₂ : n₂ = nxt c)
    (ha' : a' = sS false (par n)) (hb' : b' = rS false (par (n + 1))) (haw' : aw' = sS true (par n)) (hbw' : bw' = rS true (par (n + 1)))
    (c2 : q2.view.dmaCredit = N false) (c4 : q4.view.dmaCredit = N false) (d2 : w2.view.dmaCredit = N true) (d4 : w4.view.dmaCredit = N true)
    {e₁ : qd.view.ref.isScScratch = false} {e₂ : wd.view.ref.isScScratch = false}
    {h1 : qs.view.WordExact} {h2 : qd.view.WordExact} {h3} {h4 : ws.view.WordExact} {h5 : wd.view.WordExact} {h6}
    {i1 : q1.view.WordExact} {i2 : q2.view.WordExact} {i3 : q3.view.WordExact} {i4 : q4.view.WordExact}
    {j1 : w1.view.WordExact} {j2 : w2.view.WordExact} {j3 : w3.view.WordExact} {j4 : w4.view.WordExact}
    {k : PUnit → Prog (TpuEff nD τ sig (Elt F) Λ₀ .tc) α} :
    iprop(recs X K ∗ lane false c n ∗ lane true c n ∗ held X false c n ∗ held X true c n ∗ free c n ∗ ow c (owe c n) ∗ reached ER (crCell c) n ∗ toks false c n ∗ toks true c n)
      ⊢ iprop(((lane false c (n + 1) ∗ lane true c (n + 1) ∗ held X false c n ∗ held X true c n ∗ held X false c (n + 1) ∗ held X true c (n + 1) ∗ ow c (mid c n) ∗ reached ER (crCell (prv c)) n)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma qs (.remote (Dev.tc n₁) qd (.dma a) e₁) (.dma b) h1 h2 h3) fun _ =>
             .op (.enqueueDma ws (.remote (Dev.tc n₂) wd (.dma aw) e₂) (.dma bw) h4 h5 h6) fun _ =>
             .op (.waitDma2 a' q1 q2 i1 i2) fun _ => .op (.waitDma2 b' q3 q4 i3 i4) fun _ =>
             .op (.waitDma2 aw' w1 w2 j1 j2) fun _ => .op (.waitDma2 bw' w3 w4 j3 j4) k) Q) := by
  rw [mid_eq c n hn]
  iintro ⟨#HI, HA, HB, HQ, HW, HF, HO, #Hcr, HT, HT'⟩ Hk
  ihave HA := (lane_elim false c n) $$ HA
  icases HA with ⟨⟨S1, r1⟩, S2, ⟨R1, -⟩, R2⟩
  ihave HB := (lane_elim true c n) $$ HB
  icases HB with ⟨⟨S1', r1'⟩, S2', ⟨R1', -⟩, R2'⟩
  ihave HF := (free_elim c n) $$ HF
  icases HF with ⟨FQ, FW, GQ, GW⟩
  ihave HT := (toks_elim false c n) $$ HT
  icases HT with ⟨T1, T2, C2⟩
  ihave HT' := (toks_elim true c n) $$ HT'
  icases HT' with ⟨T1', T2', C2'⟩
  iapply (send_step X K c false n hn hqs hqd ha hb hn₁ (mid c n + tallyAt (rCell true (nxt c) (par (n + 1))) n (N true))) $$ [HQ FQ HO T1 r1 T2 GQ]
  · isplitr; · iexact HI
    isplitl [HQ]; · iexact HQ
    isplitl [FQ]; · iexact FQ
    isplitl [HO]; · iexact HO
    isplitr; · iexact Hcr
    isplitl [T1]; · iexact T1
    isplitl [r1]; · iexact r1
    isplitl [T2] <;> iassumption
  iintro ⟨C1, HO⟩
  iapply (send_step X K c true n hn hws hwd haw hbw hn₂ (mid c n)) $$ [HW FW HO T1' r1' T2' GW]
  · isplitr; · iexact HI
    isplitl [HW]; · iexact HW
    isplitl [FW]; · iexact FW
    isplitl [HO]; · iexact HO
    isplitr; · iexact Hcr
    isplitl [T1']; · iexact T1'
    isplitl [r1']; · iexact r1'
    isplitl [T2'] <;> iassumption
  iintro ⟨C1', HO⟩
  iapply (waitS_step X K c false n hn ha' c2) $$ [C1 HO S1]
  · isplitr; · iexact HI
    isplitl [C1]; · iexact C1
    isplitl [HO] <;> iassumption
  iintro ⟨HO, S1, HQ⟩
  iapply (waitR_step X K c false n hn hb' c4) $$ [C2 HO R1]
  · isplitr; · iexact HI
    isplitl [C2]; · iexact C2
    isplitl [HO] <;> iassumption
  iintro ⟨HO, R1, HQ'⟩
  ihave HQ' := (landed_elim X false c n) $$ HQ'
  icases HQ' with ⟨HQ', Hn⟩
  iapply (waitS_step X K c true n hn haw' d2) $$ [C1' HO S1']
  · isplitr; · iexact HI
    isplitl [C1']; · iexact C1'
    isplitl [HO] <;> iassumption
  iintro ⟨HO, S1', HW⟩
  iapply (waitR_step X K c true n hn hbw' d4) $$ [C2' HO R1']
  · isplitr; · iexact HI
    isplitl [C2']; · iexact C2'
    isplitl [HO] <;> iassumption
  iintro ⟨HO, R1', HW'⟩
  ihave HW' := (landed_elim X true c n) $$ HW'
  icases HW' with ⟨HW', -⟩
  iapply Hk
  isplitl [S1 S2 R1 R2]
  · iapply (lane_step false c n)
    isplitl [S1]; · iexact S1
    isplitl [S2]; · iexact S2
    isplitl [R1] <;> iassumption
  isplitl [S1' S2' R1' R2']
  · iapply (lane_step true c n)
    isplitl [S1']; · iexact S1'
    isplitl [S2']; · iexact S2'
    isplitl [R1'] <;> iassumption
  isplitl [HQ]; · iexact HQ
  isplitl [HW]; · iexact HW
  isplitl [HQ']; · iexact HQ'
  isplitl [HW']; · iexact HW'
  isplitl [HO] <;> iassumption

end Cert.RingProof

end
-- ==== Proof.Ring.Cells.lean ====
/-
  Memory held by values, and loads and stores of it.
-/
module

public import proofs.«01_k».proof.Proof.Ring.Hop

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {α : Type} {Q : α → sProp (MT nD τ sig ℕ (Elt F) ℕ UU ℕ)} (c : Dev nD)

/-! ## A memref held by values -/

/-- The memref's elements at the places `D`, held outright and reading `x` there. -/
def holds {s : Shape} {e : EltTy} (m : Memref sig .tc .vmem s e) (c : Dev nD) (D : Finset s.Idx) (x : s.Idx → Elt F e) : sProp 𝕄 :=
  iprop(∃ f, ⌜∀ y ∈ D, m.view.read (Elt F) f y = x y⌝ ∗ (m.view.loc (c : Thread nD τ) ↦[m.view.setOn D]{fullShare} f))

open Classical in
/-- `x` with `w` put over a rectangle. -/
def put {s : Shape} {V : Type} (x : s.Idx → V) (r : Rect s) (w : r.shape.Idx → V) : s.Idx → V :=
  fun y => if h : ∃ z, r.emb z = y then w h.choose else x y

theorem put_emb {s : Shape} {V : Type} (x : s.Idx → V) (r : Rect s) (w : r.shape.Idx → V) (z : r.shape.Idx) : put x r w (r.emb z) = w z := by
  have h : ∃ z', r.emb z' = r.emb z := ⟨z, rfl⟩
  unfold put; rw [dif_pos h]; exact congrArg w (r.emb.injective h.choose_spec)
theorem put_off {s : Shape} {V : Type} (x : s.Idx → V) (r : Rect s) (w : r.shape.Idx → V) {y : s.Idx} (h : y ∉ r.set) : put x r w y = x y := by
  unfold put; rw [dif_neg]; rintro ⟨z, rfl⟩; exact h (r.idx_mem z)

/-- On `D` the values are those of `G`. -/
def Agree {s : Shape} {V : Type} (G : s.Idx → V) (D : Finset s.Idx) (x : s.Idx → V) : Prop := ∀ y ∈ D, x y = G y
theorem agree_put {s : Shape} {V : Type} {G : s.Idx → V} {D : Finset s.Idx} {x : s.Idx → V} (h : Agree G D x) (r : Rect s) (w : r.shape.Idx → V)
    (hw : ∀ z, w z = G (r.emb z)) : Agree G (D ∪ r.set) (put x r w) := fun y hy => by
  by_cases hr : y ∈ r.set
  · obtain ⟨z, rfl⟩ : ∃ z, r.emb z = y := r.exists_idx_of_mem hr
    rw [put_emb, hw]
  · rw [put_off _ _ _ hr]; exact h y ((Finset.mem_union.mp hy).resolve_right hr)
theorem agree_empty {s : Shape} {V : Type} (G : s.Idx → V) (x : s.Idx → V) : Agree G ∅ x := fun _ h => absurd h (Finset.notMem_empty _)

theorem holds_load {s : Shape} {e : EltTy} {m : Memref sig .tc .vmem s e} {D : Finset s.Idx} {x : s.Idx → Elt F e} {r : Rect s}
    {hl : m.view.LoadsAt r.toLoadRect} {k : (r.shape.Idx → Elt F e) → Prog (TpuEff nD τ sig (Elt F) Λ₀ .tc) α} (hr : r.set ⊆ D) :
    holds m c D x ⊢ iprop((holds m c D x -∗ wp frame (wpE (defs₀ (F := F)) 𝒱₀ (c : Thread nD τ) none) Set.univ (k fun z => x (r.emb z)) Q)
      -∗ wp frame (wpE (defs₀ (F := F)) 𝒱₀ (c : Thread nD τ) none) Set.univ (.op (.load m r.toLoadRect hl) k) Q) := by
  unfold holds
  iintro ⟨%f, %hf, H⟩ Hk
  iapply (wp_load 𝒱₀ (c : Thread nD τ) none Set.univ (m := m) (r := r.toLoadRect) (S := m.view.setOn D) (f := f) (q := fullShare)
    (Finset.map_subset_map.mpr hr)) $$ H
  iintro H
  rw [show m.view.readAt (Elt F) r.toLoadRect f = fun z => x (r.emb z) from funext fun z => hf _ (hr (r.idx_mem z))]
  iapply Hk
  iexists f
  isplitr
  · ipureintro; exact hf
  iexact H

theorem holds_store {s : Shape} {e : EltTy} {m : Memref sig .tc .vmem s e} {D : Finset s.Idx} {x : s.Idx → Elt F e} {r : Rect s}
    {w : r.shape.Idx → Elt F e} {hx : (m.access r).Stores Finset.univ} {hm : Finset.univ = Finset.univ ∨ ∀ a, r.stride a = 1}
    {k : PUnit → Prog (TpuEff nD τ sig (Elt F) Λ₀ .tc) α} (hr : r.set ⊆ D) :
    holds m c D x ⊢ iprop((holds m c D (put x r w) -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  unfold holds
  iintro ⟨%f, %hf, H⟩ Hk
  iapply (wp_store 𝒱₀ (c : Thread nD τ) none Set.univ (m := m) (r := r) (w := w) (Mk := Finset.univ) (S := m.view.setOn D) (f := f)
    (by rw [View.setOn_univ]; show (m.view.slice r).set ⊆ _; rw [View.set_slice]; exact Finset.map_subset_map.mpr hr)) $$ H
  iintro H
  iapply Hk
  iexists ((m.access r).write (Elt F) f w Finset.univ)
  isplitr
  · ipureintro
    intro y hy
    by_cases h : y ∈ r.set
    · obtain ⟨z, rfl⟩ : ∃ z, r.emb z = y := r.exists_idx_of_mem h
      rw [put_emb]; exact m.view.read_slice_write_emb r f w (Finset.mem_univ z)
    · rw [put_off _ _ _ h]
      exact (m.view.read_slice_write_of_not_mem r f w Finset.univ (by rwa [Rect.map_emb_univ])).trans (hf y hy)
  iexact H

/-- A memref held whole. -/
abbrev whole {s : Shape} {e : EltTy} (m : Memref sig .tc .vmem s e) (c : Dev nD) (x : s.Idx → Elt F e) : sProp 𝕄 := holds m c Finset.univ x

/-- A rectangle that is the whole shape. -/
theorem emb_full {s : Shape} {off : Fin s.rank → ℕ} (h0 : off = fun _ => 0) (inb : ∀ a, off a + s.size a ≤ s.size a)
    (z : (Rect.unit off s.size inb).shape.Idx) : (Rect.unit off s.size inb).emb z = z := by
  subst h0; exact funext fun a => Fin.ext (by show 0 + 1 * (z a).val = (z a).val; omega)

theorem put_full {s : Shape} {V : Type} (x : s.Idx → V) {off : Fin s.rank → ℕ} (h0 : off = fun _ => 0) (inb : ∀ a, off a + s.size a ≤ s.size a)
    (w : (Rect.unit off s.size inb).shape.Idx → V) : put x (Rect.unit off s.size inb) w = w :=
  funext fun y => by
    have := put_emb x (Rect.unit off s.size inb) w y
    rwa [emb_full h0] at this

theorem whole_load {s : Shape} {e : EltTy} {m : Memref sig .tc .vmem s e} {x : s.Idx → Elt F e} {off : Fin s.rank → ℕ}
    (h0 : off = fun _ => 0) {inb : ∀ a, off a + s.size a ≤ s.size a} {hl : m.view.LoadsAt (Rect.unit off s.size inb).toLoadRect}
    {k : (s.Idx → Elt F e) → Prog (TpuEff nD τ sig (Elt F) Λ₀ .tc) α} :
    whole m c x ⊢ iprop((whole m c x -∗ wp frame (wpE (defs₀ (F := F)) 𝒱₀ (c : Thread nD τ) none) Set.univ (k x) Q)
      -∗ wp frame (wpE (defs₀ (F := F)) 𝒱₀ (c : Thread nD τ) none) Set.univ (.op (.load m (Rect.unit off s.size inb).toLoadRect hl) k) Q) := by
  have h := holds_load (F := F) (Q := Q) c (m := m) (x := x) (D := Finset.univ) (r := Rect.unit off s.size inb) (hl := hl) (k := k) (Finset.subset_univ _)
  rwa [show (fun z => x ((Rect.unit off s.size inb).emb z)) = x from funext fun z => congrArg x (emb_full h0 inb z)] at h

theorem whole_store {s : Shape} {e : EltTy} {m : Memref sig .tc .vmem s e} {x : s.Idx → Elt F e} {off : Fin s.rank → ℕ}
    (h0 : off = fun _ => 0) {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} :
    whole m c x ⊢ iprop((whole m c w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit off s.size inb) w Finset.univ hx hm) k) Q) := by
  have h := holds_store (F := F) (Q := Q) c (m := m) (x := x) (D := Finset.univ) (r := Rect.unit off s.size inb) (w := w) (hx := hx) (hm := hm) (k := k) (Finset.subset_univ _)
  rwa [put_full x h0 inb w] at h

/-! ## The ring's slots through the buffers around them -/

/-- The buffer of a lane's two slots, and the place of a slot in it. -/
abbrev shB : Bool → Shape | false => S2x768x768 | true => S2x256x768
abbrev shL : Bool → Shape | false => S1x768x768 | true => S1x256x768
abbrev buf : (l : Bool) → Memref sig .tc .vmem (shB l) .bf16
  | false => Memref.whole cc0_scratch3
  | true => Memref.whole cc0_scratch4
abbrev at_ : (l : Bool) → (s : Fin 2) → Rect (shB l)
  | false, 0 => Rect.unit (s := S2x768x768) ![0, 0, 0] S1x768x768.size inb_S2x768x768_S1x768x768_0_0_0
  | false, 1 => Rect.unit (s := S2x768x768) ![1, 0, 0] S1x768x768.size inb_S2x768x768_S1x768x768_1_0_0
  | true, 0 => Rect.unit (s := S2x256x768) ![0, 0, 0] S1x256x768.size inb_S2x256x768_S1x256x768_0_0_0
  | true, 1 => Rect.unit (s := S2x256x768) ![1, 0, 0] S1x256x768.size inb_S2x256x768_S1x256x768_1_0_0

theorem casts (l : Bool) (s : Fin 2) : (at_ l s).shape.ShapeCasts (sh l) := by
  revert s; cases l <;> decide

section Slot
variable {s s' : Shape} {e : EltTy} (M : Memref sig .tc .vmem s e) (r : Rect s) (hr : ∀ a, r.stride a = 1) (hq : r.shape.Squeezes s') (hc : r.shape.ShapeCasts s')

theorem set_squeeze_slice : ((M.slice r hr).squeeze s' hq).view.set = M.view.setOn r.set := by
  show ((M.view.slice r).reshape s' _).set = _
  rw [View.set_reshape, View.set_slice]; rfl

theorem open_slot (x : s'.Idx → Elt F e) :
    iprop(∃ f, ⌜((M.slice r hr).squeeze s' hq).view.read (Elt F) f = x⌝
        ∗ (((M.slice r hr).squeeze s' hq).view.loc (c : Thread nD τ) ↦[((M.slice r hr).squeeze s' hq).view.set]{fullShare} f))
      ⊢ (iprop(∃ y, ⌜shapeCast s' (fun z => y (r.emb z)) hc = x⌝ ∗ holds M c r.set y) : sProp 𝕄) := by
  rw [set_squeeze_slice]
  unfold holds
  iintro ⟨%f, %hf, H⟩
  iexists (M.view.read (Elt F) f)
  isplitr
  · ipureintro; exact hf
  iexists f
  isplitr
  · ipureintro; exact fun _ _ => rfl
  iexact H

theorem close_slot (y : s.Idx → Elt F e) : holds M c r.set y ⊢
    (iprop(∃ f, ⌜((M.slice r hr).squeeze s' hq).view.read (Elt F) f = shapeCast s' (fun z => y (r.emb z)) hc⌝
        ∗ (((M.slice r hr).squeeze s' hq).view.loc (c : Thread nD τ) ↦[((M.slice r hr).squeeze s' hq).view.set]{fullShare} f)) : sProp 𝕄) := by
  rw [set_squeeze_slice]
  unfold holds
  iintro ⟨%f, %hf, H⟩
  iexists f
  isplitr
  · ipureintro
    show shapeCast s' (M.view.readAt (Elt F) r.toLoadRect f) hc = _
    exact congrArg (fun v => shapeCast s' v hc) (funext fun z => hf _ (r.idx_mem z))
  iexact H

end Slot

theorem sAt_open (l : Bool) (s : Fin 2) (x : (sh l).Idx → Elt F .bf16) :
    sAt l c s x ⊢ (iprop(∃ y, ⌜shapeCast (sh l) (fun z => y ((at_ l s).emb z)) (casts l s) = x⌝ ∗ holds (buf l) c (at_ l s).set y) : sProp 𝕄) := by
  unfold sAt
  match l, s with
  | false, 0 => exact open_slot c _ _ (fun _ => rfl) squeezes_S1x768x768_S768x768 _ x
  | false, 1 => exact open_slot c _ _ (fun _ => rfl) squeezes_S1x768x768_S768x768 _ x
  | true, 0 => exact open_slot c _ _ (fun _ => rfl) squeezes_S1x256x768_S256x768 _ x
  | true, 1 => exact open_slot c _ _ (fun _ => rfl) squeezes_S1x256x768_S256x768 _ x

theorem sAt_close (l : Bool) (s : Fin 2) (y : (shB l).Idx → Elt F .bf16) :
    holds (buf l) c (at_ l s).set y ⊢ (sAt l c s (shapeCast (sh l) (fun z => y ((at_ l s).emb z)) (casts l s)) : sProp 𝕄) := by
  unfold sAt
  match l, s with
  | false, 0 => exact close_slot c _ _ (fun _ => rfl) squeezes_S1x768x768_S768x768 _ y
  | false, 1 => exact close_slot c _ _ (fun _ => rfl) squeezes_S1x768x768_S768x768 _ y
  | true, 0 => exact close_slot c _ _ (fun _ => rfl) squeezes_S1x256x768_S256x768 _ y
  | true, 1 => exact close_slot c _ _ (fun _ => rfl) squeezes_S1x256x768_S256x768 _ y

/-- A slot read through the buffer around it. -/
theorem slot_load (l : Bool) (s : Fin 2) {x : (sh l).Idx → Elt F .bf16}
    {hl : (buf l).view.LoadsAt (at_ l s).toLoadRect} {k : ((at_ l s).shape.Idx → Elt F .bf16) → Prog (TpuEff nD τ sig (Elt F) Λ₀ .tc) α} :
    sAt l c s x ⊢ iprop((∀ v, ⌜shapeCast (sh l) v (casts l s) = x⌝ -∗ sAt l c s x -∗ wp frame (wpE (defs₀ (F := F)) 𝒱₀ (c : Thread nD τ) none) Set.univ (k v) Q)
      -∗ wp frame (wpE (defs₀ (F := F)) 𝒱₀ (c : Thread nD τ) none) Set.univ (.op (.load (buf l) (at_ l s).toLoadRect hl) k) Q) := by
  iintro H Hk
  ihave H := (sAt_open c l s x) $$ H
  icases H with ⟨%y, %hy, H⟩
  iapply (holds_load c (m := buf l) (D := (at_ l s).set) (r := at_ l s) (x := y) (Finset.Subset.refl _)) $$ H
  iintro H
  ihave H := (sAt_close c l s y) $$ H
  rw [hy]
  ispecialize Hk $$ %(fun z => y ((at_ l s).emb z))
  iapply Hk $$ [] H
  ipureintro; exact hy

end Cert.RingProof

end
-- ==== Proof.Ring.Group.lean ====
/-
  What a group of heads adds to the accumulator, and the run that adds it.
-/
module

public import proofs.«01_k».proof.Proof.Ring.Cells
public import Idealize.ShloMosaic.Lib.ValueLayout

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers -/

abbrev xfM : Memref sig .tc .vmem S512x768 .bf16 := Memref.whole cc0_scratch0
abbrev ctxM : Memref sig .tc .vmem S512x256 .bf16 := Memref.whole cc0_scratch1
abbrev accM : Memref sig .tc .vmem S512x768 .f32 := Memref.whole cc0_scratch2
abbrev xM : Memref sig .tc .vmem S2x256x768 .bf16 := Memref.whole cc0_stg0_0
abbrev wqM : Memref sig .tc .vmem S768x256 .bf16 := Memref.whole cc0_stg1_0
abbrev wkM : Memref sig .tc .vmem S768x256 .bf16 := Memref.whole cc0_stg2_0
abbrev wvM : Memref sig .tc .vmem S768x256 .bf16 := Memref.whole cc0_stg3_0
abbrev woM : Memref sig .tc .vmem S256x768 .bf16 := Memref.whole cc0_stg4_0
abbrev coM : Memref sig .tc .vmem S512x256 .f32 := Memref.whole cc0_stg5_0
abbrev siM : Memref sig .tc .vmem S512x256 .f32 := Memref.whole cc0_stg6_0
abbrev pM : Memref sig .tc .vmem S256x256 .bf16 := Memref.whole cc0_stg7_0
abbrev outM : Memref sig .tc .vmem S2x256x768 .f32 := Memref.whole cc0_stg8_0

/-! ## What a group of heads adds -/

/-- The rows times a third of a shard of projections. -/
def proj (xf : FVec F S512x768 .bf16) (w : FVec F S768x768 .bf16) (o : Fin 2 → ℕ) (ho : S768x768.Slices o S768x256) : FVec F S512x256 .f32 :=
  matmul dot_S512x768_S768x256_S512x256_1_0_0_1_n_n none xf (extractStridedSlice S768x256 o w ho) (constant S512x256 .f32 0x00000000#32)

/-- The rotation: times the cosines, and the signed permutation times the sines. -/
def rot (pm : FVec F S256x256 .bf16) (co si : FVec F S512x256 .f32) (a : FVec F S512x256 .f32) : FVec F S512x256 .bf16 :=
  truncf .bf16 (addf (mulf a (shapeCast S512x256 co shapeCasts_S512x256_S512x256))
    (mulf (matmul dot_S512x256_S256x256_S512x256_1_0_0_1_n_n none (truncf .bf16 a bitsLt_bf16_f32) pm (constant S512x256 .f32 0x00000000#32))
      (shapeCast S512x256 si shapeCasts_S512x256_S512x256))) bitsLt_bf16_f32

theorem head_slices (b : Fin 2) (h : Fin 4) : S512x256.Slices ![256 * b.val, 64 * h.val] S256x64 := by revert b h; decide

/-- The scores of batch `b` and head `h`. -/
def scores (q k : FVec F S512x256 .bf16) (b : Fin 2) (h : Fin 4) : FVec F S256x256 .f32 :=
  mulf (matmul dot_S256x64_S256x64_S256x256_1_1_0_0_n_n none (extractStridedSlice S256x64 ![256 * b.val, 64 * h.val] q (head_slices b h))
    (extractStridedSlice S256x64 ![256 * b.val, 64 * h.val] k (head_slices b h)) (constant S256x256 .f32 0x00000000#32))
    (broadcast S256x256 (Scalar.ofBits .f32 0x3E000000#32))

/-- The exponentials of scores less their row's greatest. -/
def exps (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- Exponentials over their row's sum. -/
def probs (e : FVec F S256x256 .f32) : FVec F S256x256 .bf16 :=
  truncf .bf16 (divf e (broadcastTo S256x256 (shapeCast S256x1 (multiReduction .add [1] S256 e 0x00000000#32 reduces_S256x256_S256 (.inl rfl) rfl) shapeCasts_S256_S256x1) broadcasts_S256x1_S256x256)) bitsLt_bf16_f32

/-- What batch `b` and head `h` leave: the weighted values. -/
def head (q k v : FVec F S512x256 .bf16) (b : Fin 2) (h : Fin 4) : FVec F S256x64 .bf16 :=
  shapeCast S256x64 (truncf .bf16 (matmul dot_S256x256_S256x64_S256x64_1_0_0_1_n_n none (probs (exps (scores q k b h)))
    (extractStridedSlice S256x64 ![256 * b.val, 64 * h.val] v (head_slices b h)) (constant S256x64 .f32 0x00000000#32)) bitsLt_bf16_f32) shapeCasts_S256x64_S256x64

/-- The heads of a group side by side, the batches one under the other. -/
def beside {V : Type} (p : Fin 2 → Fin 4 → S256x64.Idx → V) : S512x256.Idx → V := fun i =>
  p ⟨(i 0).val / 256, by have : (i 0).val < 512 := (i 0).isLt; omega⟩ ⟨(i 1).val / 64, by have : (i 1).val < 256 := (i 1).isLt; omega⟩
    (ValueIdx.ix2 ⟨(i 0).val % 256, Nat.mod_lt _ (by decide)⟩ ⟨(i 1).val % 64, Nat.mod_lt _ (by decide)⟩)

/-- The accumulator with a group's part added: context times the group's rows of the output projection. -/
def addTo (acc : FVec F S512x768 .f32) (ctx : FVec F S512x256 .bf16) (wo : FVec F S256x768 .bf16) : FVec F S512x768 .f32 :=
  shapeCast S512x768 (addf acc (matmul dot_S512x256_S256x768_S512x768_1_0_0_1_n_n none ctx wo (constant S512x768 .f32 0x00000000#32))) shapeCasts_S512x768_S512x768

/-- The context of a group from its shard. -/
def ctxOf (xf : FVec F S512x768 .bf16) (pm : FVec F S256x256 .bf16) (co si : FVec F S512x256 .f32) (w : FVec F S768x768 .bf16) : FVec F S512x256 .bf16 :=
  beside (head (rot pm co si (proj xf w ![0, 0] slices_S768x768_o0_0_S768x256)) (rot pm co si (proj xf w ![0, 256] slices_S768x768_o0_256_S768x256))
    (truncf .bf16 (proj xf w ![0, 512] slices_S768x768_o0_512_S768x256) bitsLt_bf16_f32))

/-! ## The run -/

abbrev hR (o : Fin 2 → ℕ) (inb : ∀ a, o a + S256x64.size a ≤ S512x256.size a) : Rect S512x256 := Rect.unit (s := S512x256) o S256x64.size inb

theorem beside_emb {V : Type} (p : Fin 2 → Fin 4 → S256x64.Idx → V) (b : Fin 2) (h : Fin 4) {o : Fin 2 → ℕ} (ho : o = ![256 * b.val, 64 * h.val])
    (inb) (z : (hR o inb).shape.Idx) : beside p ((hR o inb).emb z) = p b h z := by
  subst ho
  have h0 : (z 0).val < 256 := (z 0).isLt
  have h1 : (z 1).val < 64 := (z 1).isLt
  have e0 : (((hR _ inb).emb z) 0).val = 256 * b.val + 1 * (z 0).val := rfl
  have e1 : (((hR _ inb).emb z) 1).val = 64 * h.val + 1 * (z 1).val := rfl
  refine congr (congr (congrArg p (Fin.ext ?_)) (Fin.ext ?_)) (funext fun a => Fin.ext ?_)
  · show (((hR _ inb).emb z) 0).val / 256 = b.val; rw [e0]; omega
  · show (((hR _ inb).emb z) 1).val / 64 = h.val; rw [e1]; omega
  · match a with
    | 0 => show (((hR _ inb).emb z) 0).val % 256 = (z 0).val; rw [e0]; omega
    | 1 => show (((hR _ inb).emb z) 1).val % 64 = (z 1).val; rw [e1]; omega

variable {α : Type} {Q : α → sProp (MT nD τ sig ℕ (Elt F) ℕ UU ℕ)} (c : Dev nD)

theorem head_step (p : Fin 2 → Fin 4 → S256x64.Idx → Elt F .bf16) (b : Fin 2) (h : Fin 4) {o : Fin 2 → ℕ} (ho : o = ![256 * b.val, 64 * h.val])
    {D : Finset S512x256.Idx} {x : S512x256.Idx → Elt F .bf16} (hx : Agree (beside p) D x) {inb} {w : S256x64.Idx → Elt F .bf16} (hw : w = p b h)
    {h1 : ctxM.view.LoadsAt (hR o inb).toLoadRect} {h2 : (ctxM.access (hR o inb)).Stores Finset.univ} {h3 : Finset.univ = Finset.univ ∨ ∀ a, (hR o inb).stride a = 1}
    {k : PUnit → Prog (TpuEff nD τ sig (Elt F) Λ₀ .tc) α} :
    whole ctxM c x ⊢ iprop((∀ x', ⌜Agree (beside p) (D ∪ (hR o inb).set) x'⌝ -∗ whole ctxM c x' -∗ wp frame (wpE (defs₀ (F := F)) 𝒱₀ (c : Thread nD τ) none) Set.univ (k ⟨⟩) Q)
      -∗ wp frame (wpE (defs₀ (F := F)) 𝒱₀ (c : Thread nD τ) none) Set.univ
        (.op (.load ctxM (hR o inb).toLoadRect h1) fun _ => .op (.store ctxM (hR o inb) w Finset.univ h2 h3) k) Q) := by
  subst hw
  iintro H Hk
  iapply (holds_load c (m := ctxM) (D := Finset.univ) (r := hR o inb) (x := x) (Finset.subset_univ _)) $$ H
  iintro H
  iapply (holds_store c (m := ctxM) (D := Finset.univ) (r := hR o inb) (x := x) (w := p b h) (Finset.subset_univ _)) $$ H
  iintro H
  ispecialize Hk $$ %(put x (hR o inb) (p b h))
  iapply Hk $$ [] H
  ipureintro
  exact agree_put hx _ _ fun z => (beside_emb p b h ho inb z).symm

/-- A group's heads written side by side into the context buffer, and their part added to the accumulator. -/
theorem heads_run (p : Fin 2 → Fin 4 → S256x64.Idx → Elt F .bf16) (x : S512x256.Idx → Elt F .bf16) (a : S512x768.Idx → Elt F .f32)
    {w00 : S256x64.Idx → Elt F .bf16} {l00 : ctxM.view.LoadsAt (hR ![0, 0] inb_S512x256_S256x64_0_0).toLoadRect} {s00 : (ctxM.access (hR ![0, 0] inb_S512x256_S256x64_0_0)).Stores Finset.univ} {m00 : Finset.univ = Finset.univ ∨ ∀ a, (hR ![0, 0] inb_S512x256_S256x64_0_0).stride a = 1}
    {w01 : S256x64.Idx → Elt F .bf16} {l01 : ctxM.view.LoadsAt (hR ![0, 64] inb_S512x256_S256x64_0_64).toLoadRect} {s01 : (ctxM.access (hR ![0, 64] inb_S512x256_S256x64_0_64)).Stores Finset.univ} {m01 : Finset.univ = Finset.univ ∨ ∀ a, (hR ![0, 64] inb_S512x256_S256x64_0_64).stride a = 1}
    {w02 : S256x64.Idx → Elt F .bf16} {l02 : ctxM.view.LoadsAt (hR ![0, 128] inb_S512x256_S256x64_0_128).toLoadRect} {s02 : (ctxM.access (hR ![0, 128] inb_S512x256_S256x64_0_128)).Stores Finset.univ} {m02 : Finset.univ = Finset.univ ∨ ∀ a, (hR ![0, 128] inb_S512x256_S256x64_0_128).stride a = 1}
    {w03 : S256x64.Idx → Elt F .bf16} {l03 : ctxM.view.LoadsAt (hR ![0, 192] inb_S512x256_S256x64_0_192).toLoadRect} {s03 : (ctxM.access (hR ![0, 192] inb_S512x256_S256x64_0_192)).Stores Finset.univ} {m03 : Finset.univ = Finset.univ ∨ ∀ a, (hR ![0, 192] inb_S512x256_S256x64_0_192).stride a = 1}
    {w10 : S256x64.Idx → Elt F .bf16} {l10 : ctxM.view.LoadsAt (hR ![256, 0] inb_S512x256_S256x64_256_0).toLoadRect} {s10 : (ctxM.access (hR ![256, 0] inb_S512x256_S256x64_256_0)).Stores Finset.univ} {m10 : Finset.univ = Finset.univ ∨ ∀ a, (hR ![256, 0] inb_S512x256_S256x64_256_0).stride a = 1}
    {w11 : S256x64.Idx → Elt F .bf16} {l11 : ctxM.view.LoadsAt (hR ![256, 64] inb_S512x256_S256x64_256_64).toLoadRect} {s11 : (ctxM.access (hR ![256, 64] inb_S512x256_S256x64_256_64)).Stores Finset.univ} {m11 : Finset.univ = Finset.univ ∨ ∀ a, (hR ![256, 64] inb_S512x256_S256x64_256_64).stride a = 1}
    {w12 : S256x64.Idx → Elt F .bf16} {l12 : ctxM.view.LoadsAt (hR ![256, 128] inb_S512x256_S256x64_256_128).toLoadRect} {s12 : (ctxM.access (hR ![256, 128] inb_S512x256_S256x64_256_128)).Stores Finset.univ} {m12 : Finset.univ = Finset.univ ∨ ∀ a, (hR ![256, 128] inb_S512x256_S256x64_256_128).stride a = 1}
    {w13 : S256x64.Idx → Elt F .bf16} {l13 : ctxM.view.LoadsAt (hR ![256, 192] inb_S512x256_S256x64_256_192).toLoadRect} {s13 : (ctxM.access (hR ![256, 192] inb_S512x256_S256x64_256_192)).Stores Finset.univ} {m13 : Finset.univ = Finset.univ ∨ ∀ a, (hR ![256, 192] inb_S512x256_S256x64_256_192).stride a = 1}
    (e00 : w00 = p 0 0) (e01 : w01 = p 0 1) (e02 : w02 = p 0 2) (e03 : w03 = p 0 3) (e10 : w10 = p 1 0) (e11 : w11 = p 1 1) (e12 : w12 = p 1 2) (e13 : w13 = p 1 3)
    {g1 : accM.view.LoadsAt (Rect.unit (s := S512x768) ![0, 0] S512x768.size inb_S512x768_S512x768_0_0).toLoadRect} {g2 : ctxM.view.LoadsAt (Rect.unit (s := S512x256) ![0, 0] S512x256.size inb_S512x256_S512x256_0_0).toLoadRect} {g3 : accM.view.LoadsAt (Rect.unit (s := S512x768) ![0, 0] S512x768.size inb_S512x768_S512x768_0_0).toLoadRect}
    {P : (S512x768.Idx → Elt F .f32) → (S512x256.Idx → Elt F .bf16) → (S512x768.Idx → Elt F .f32)}
    {g4 : (accM.access (Rect.unit (s := S512x768) ![0, 0] S512x768.size inb_S512x768_S512x768_0_0)).Stores Finset.univ} {g5 : Finset.univ = Finset.univ ∨ ∀ a, (Rect.unit (s := S512x768) ![0, 0] S512x768.size inb_S512x768_S512x768_0_0).stride a = 1}
    {k : PUnit → Prog (TpuEff nD τ sig (Elt F) Λ₀ .tc) α} :
    iprop(whole ctxM c x ∗ whole accM c a) ⊢ iprop(((whole ctxM c (beside p) ∗ whole accM c (P a (beside p))) -∗ wp frame (wpE (defs₀ (F := F)) 𝒱₀ (c : Thread nD τ) none) Set.univ (k ⟨⟩) Q)
      -∗ wp frame (wpE (defs₀ (F := F)) 𝒱₀ (c : Thread nD τ) none) Set.univ (
        .op (.load ctxM (hR ![0, 0] inb_S512x256_S256x64_0_0).toLoadRect l00) fun _ => .op (.store ctxM (hR ![0, 0] inb_S512x256_S256x64_0_0) w00 Finset.univ s00 m00) fun _ =>
        .op (.load ctxM (hR ![0, 64] inb_S512x256_S256x64_0_64).toLoadRect l01) fun _ => .op (.store ctxM (hR ![0, 64] inb_S512x256_S256x64_0_64) w01 Finset.univ s01 m01) fun _ =>
        .op (.load ctxM (hR ![0, 128] inb_S512x256_S256x64_0_128).toLoadRect l02) fun _ => .op (.store ctxM (hR ![0, 128] inb_S512x256_S256x64_0_128) w02 Finset.univ s02 m02) fun _ =>
        .op (.load ctxM (hR ![0, 192] inb_S512x256_S256x64_0_192).toLoadRect l03) fun _ => .op (.store ctxM (hR ![0, 192] inb_S512x256_S256x64_0_192) w03 Finset.univ s03 m03) fun _ =>
        .op (.load ctxM (hR ![256, 0] inb_S512x256_S256x64_256_0).toLoadRect l10) fun _ => .op (.store ctxM (hR ![256, 0] inb_S512x256_S256x64_256_0) w10 Finset.univ s10 m10) fun _ =>
        .op (.load ctxM (hR ![256, 64] inb_S512x256_S256x64_256_64).toLoadRect l11) fun _ => .op (.store ctxM (hR ![256, 64] inb_S512x256_S256x64_256_64) w11 Finset.univ s11 m11) fun _ =>
        .op (.load ctxM (hR ![256, 128] inb_S512x256_S256x64_256_128).toLoadRect l12) fun _ => .op (.store ctxM (hR ![256, 128] inb_S512x256_S256x64_256_128) w12 Finset.univ s12 m12) fun _ =>
        .op (.load ctxM (hR ![256, 192] inb_S512x256_S256x64_256_192).toLoadRect l13) fun _ => .op (.store ctxM (hR ![256, 192] inb_S512x256_S256x64_256_192) w13 Finset.univ s13 m13) fun _ =>
        .op (.load accM (Rect.unit (s := S512x768) ![0, 0] S512x768.size inb_S512x768_S512x768_0_0).toLoadRect g1) fun a => .op (.load ctxM (Rect.unit (s := S512x256) ![0, 0] S512x256.size inb_S512x256_S512x256_0_0).toLoadRect g2) fun x => .op (.load accM (Rect.unit (s := S512x768) ![0, 0] S512x768.size inb_S512x768_S512x768_0_0).toLoadRect g3) fun _ =>
        .op (.store accM (Rect.unit (s := S512x768) ![0, 0] S512x768.size inb_S512x768_S512x768_0_0) (P a x) Finset.univ g4 g5) k) Q) := by
  iintro ⟨H, HA⟩ Hk
  iapply (head_step c p 0 0 (o := ![0, 0]) rfl (agree_empty (beside p) x) e00) $$ H
  iintro %x0 %a0 H
  iapply (head_step c p 0 1 (o := ![0, 64]) rfl (a0) e01) $$ H
  iintro %x1 %a1 H
  iapply (head_step c p 0 2 (o := ![0, 128]) rfl (a1) e02) $$ H
  iintro %x2 %a2 H
  iapply (head_step c p 0 3 (o := ![0, 192]) rfl (a2) e03) $$ H
  iintro %x3 %a3 H
  iapply (head_step c p 1 0 (o := ![256, 0]) rfl (a3) e10) $$ H
  iintro %x4 %a4 H
  iapply (head_step c p 1 1 (o := ![256, 64]) rfl (a4) e11) $$ H
  iintro %x5 %a5 H
  iapply (head_step c p 1 2 (o := ![256, 128]) rfl (a5) e12) $$ H
  iintro %x6 %a6 H
  iapply (head_step c p 1 3 (o := ![256, 192]) rfl (a6) e13) $$ H
  iintro %x7 %a7 H
  have hx : x7 = beside p := funext fun y => a7 y (by
    have h0 : (y 0).val < 512 := (y 0).isLt
    have h1 : (y 1).val < 256 := (y 1).isLt
    simp only [Finset.mem_union, Rect.mem_set_unit, Fin.forall_fin_two]
    show ((((((((_ ∨ ((0 ≤ (y 0).val ∧ (y 0).val < 0 + 256) ∧ (0 ≤ (y 1).val ∧ (y 1).val < 0 + 64)))
      ∨ ((0 ≤ (y 0).val ∧ (y 0).val < 0 + 256) ∧ (64 ≤ (y 1).val ∧ (y 1).val < 64 + 64)))
      ∨ ((0 ≤ (y 0).val ∧ (y 0).val < 0 + 256) ∧ (128 ≤ (y 1).val ∧ (y 1).val < 128 + 64)))
      ∨ ((0 ≤ (y 0).val ∧ (y 0).val < 0 + 256) ∧ (192 ≤ (y 1).val ∧ (y 1).val < 192 + 64)))
      ∨ ((256 ≤ (y 0).val ∧ (y 0).val < 256 + 256) ∧ (0 ≤ (y 1).val ∧ (y 1).val < 0 + 64)))
      ∨ ((256 ≤ (y 0).val ∧ (y 0).val < 256 + 256) ∧ (64 ≤ (y 1).val ∧ (y 1).val < 64 + 64)))
      ∨ ((256 ≤ (y 0).val ∧ (y 0).val < 256 + 256) ∧ (128 ≤ (y 1).val ∧ (y 1).val < 128 + 64)))
      ∨ ((256 ≤ (y 0).val ∧ (y 0).val < 256 + 256) ∧ (192 ≤ (y 1).val ∧ (y 1).val < 192 + 64)))
    omega)
  rw [hx]
  iapply (whole_load c (m := accM) (x := a) (off := ![0, 0]) (by decide)) $$ HA
  iintro HA
  iapply (whole_load c (m := ctxM) (x := beside p) (off := ![0, 0]) (by decide)) $$ H
  iintro H
  iapply (whole_load c (m := accM) (x := a) (off := ![0, 0]) (by decide)) $$ HA
  iintro HA
  iapply (whole_store c (m := accM) (x := a) (w := P a (beside p)) (off := ![0, 0]) (by decide)) $$ HA
  iintro HA
  iapply Hk
  isplitl [H] <;> iassumption

end Cert.RingProof

end
-- ==== Proof.Ring.State.lean ====
/-
  What a device carries from hop to hop.
-/
module

public import proofs.«01_k».proof.Proof.Ring.Group

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : (l : Bool) → Dev nD → (sh l).Idx → Elt F .bf16)

/-! ## Between hops -/

/-- What device `c` carries into hop `n`: its lanes, the shard it holds, what it owes, and the tokens of the hops to come. -/
def hopSt (c : Dev nD) (n : ℕ) : sProp 𝕄 :=
  iprop(lane false c n ∗ lane true c n ∗ held X false c n ∗ held X true c n ∗ ow c (owe c n)
    ∗ bigSep (Finset.Ico n 31) (fun i => iprop(toks false c i ∗ toks true c i)) ∗ bigSep (Finset.Ico n 30) (fun i => crTok c i))

/-- What lets hop `n` begin: for hop 0 the barrier's gift, after it a credit to be waited for. -/
def gate (c : Dev nD) : ℕ → sProp 𝕄
  | 0 => iprop(pos (crCell c) 0 ∗ free c 0)
  | n + 1 => iprop(pos (crCell c) n ∗ cred (tallyAt (crCell c) n 1))

def go (c : Dev nD) (n : ℕ) : sProp 𝕄 := iprop(pos (crCell c) n ∗ free c n)

/-- After hop `n`, both slots in hand. -/
def aft (c : Dev nD) (n : ℕ) : sProp 𝕄 :=
  iprop(lane false c (n + 1) ∗ lane true c (n + 1) ∗ held X false c n ∗ held X true c n ∗ held X false c (n + 1) ∗ held X true c (n + 1)
    ∗ ow c (mid c n) ∗ reached ER (crCell (prv c)) n ∗ pos (crCell c) n
    ∗ bigSep (Finset.Ico (n + 1) 31) (fun i => iprop(toks false c i ∗ toks true c i)) ∗ bigSep (Finset.Ico n 30) (fun i => crTok c i))

theorem ico_insert (n m : ℕ) (h : n < m) : Finset.Ico n m = insert n (Finset.Ico (n + 1) m) := by
  ext x; simp only [Finset.mem_Ico, Finset.mem_insert]; omega

theorem take_first (Φ : ℕ → sProp 𝕄) (n m : ℕ) (h : n < m) :
    bigSep (Finset.Ico n m) Φ ⊢ (iprop(Φ n ∗ bigSep (Finset.Ico (n + 1) m) Φ) : sProp 𝕄) := by
  rw [ico_insert n m h, bigSep_insert (by simp)]
  exact BI.Entails.refl _

theorem hopSt_elim (c : Dev nD) (n : ℕ) : hopSt X c n ⊢ (iprop(lane false c n ∗ lane true c n ∗ held X false c n ∗ held X true c n ∗ ow c (owe c n)
    ∗ bigSep (Finset.Ico n 31) (fun i => iprop(toks false c i ∗ toks true c i)) ∗ bigSep (Finset.Ico n 30) (fun i => crTok c i)) : sProp 𝕄) := by
  unfold hopSt; exact BI.Entails.refl _
theorem go_elim (c : Dev nD) (n : ℕ) : go c n ⊢ (iprop(pos (crCell c) n ∗ free c n) : sProp 𝕄) := by
  unfold go; exact BI.Entails.refl _
theorem gate_elim (c : Dev nD) (n : ℕ) : gate c (n + 1) ⊢ (iprop(pos (crCell c) n ∗ cred (tallyAt (crCell c) n 1)) : sProp 𝕄) := by
  unfold gate; exact BI.Entails.refl _
theorem crTok_elim (c : Dev nD) (n : ℕ) : crTok c n ⊢ (iprop(dutyTok ER (crCell (prv c)) n false ∗ cred (tallyAt (crCell c) n 1)) : sProp 𝕄) := by
  unfold crTok; exact BI.Entails.refl _
theorem aft_elim (c : Dev nD) (n : ℕ) : aft X c n ⊢ (iprop(lane false c (n + 1) ∗ lane true c (n + 1) ∗ held X false c n ∗ held X true c n ∗ held X false c (n + 1) ∗ held X true c (n + 1)
    ∗ ow c (mid c n) ∗ reached ER (crCell (prv c)) n ∗ pos (crCell c) n
    ∗ bigSep (Finset.Ico (n + 1) 31) (fun i => iprop(toks false c i ∗ toks true c i)) ∗ bigSep (Finset.Ico n 30) (fun i => crTok c i)) : sProp 𝕄) := by
  unfold aft; exact BI.Entails.refl _
/-- A slot held is read, and given back. -/
theorem hopSt_slots (c : Dev nD) (n : ℕ) : hopSt X c n ⊢ (iprop(sAt false c (par n) (X false (prv^[n] c)) ∗ sAt true c (par n) (X true (prv^[n] c))
    ∗ (sAt false c (par n) (X false (prv^[n] c)) -∗ sAt true c (par n) (X true (prv^[n] c)) -∗ hopSt X c n)) : sProp 𝕄) := by
  unfold hopSt held
  iintro ⟨H1, H2, H3, H4, H5⟩
  isplitl [H3]; · iexact H3
  isplitl [H4]; · iexact H4
  iintro H3 H4
  isplitl [H1]; · iexact H1
  isplitl [H2]; · iexact H2
  isplitl [H3]; · iexact H3
  isplitl [H4] <;> iassumption

variable {α : Type} {Q : α → sProp (MT nD τ sig ℕ (Elt F) ℕ UU ℕ)} (K : GSem nD τ sig → ℕ) (c : Dev nD)

theorem hop_go (n : ℕ) (hn : n < 31)
    {qs qd q1 q2 q3 q4 : Memref sig .tc .vmem (sh false) .bf16} {ws wd w1 w2 w3 w4 : Memref sig .tc .vmem (sh true) .bf16}
    {a b a' b' aw bw aw' bw' : DmaSem sig} {n₁ n₂ : Dev nD}
    (hqs : qs = slot false (par n)) (hqd : qd = slot false (par (n + 1))) (ha : a = sS false (par n)) (hb : b = rS false (par (n + 1))) (hn₁ : n₁ = nxt c)
    (hws : ws = slot true (par n)) (hwd : wd = slot true (par (n + 1))) (haw : aw = sS true (par n)) (hbw : bw = rS true (par (n + 1))) (hn₂ : n₂ = nxt c)
    (ha' : a' = sS false (par n)) (hb' : b' = rS false (par (n + 1))) (haw' : aw' = sS true (par n)) (hbw' : bw' = rS true (par (n + 1)))
    (c2 : q2.view.dmaCredit = N false) (c4 : q4.view.dmaCredit = N false) (d2 : w2.view.dmaCredit = N true) (d4 : w4.view.dmaCredit = N true)
    {e₁ : qd.view.ref.isScScratch = false} {e₂ : wd.view.ref.isScScratch = false}
    {h1 : qs.view.WordExact} {h2 : qd.view.WordExact} {h3} {h4 : ws.view.WordExact} {h5 : wd.view.WordExact} {h6}
    {i1 : q1.view.WordExact} {i2 : q2.view.WordExact} {i3 : q3.view.WordExact} {i4 : q4.view.WordExact}
    {j1 : w1.view.WordExact} {j2 : w2.view.WordExact} {j3 : w3.view.WordExact} {j4 : w4.view.WordExact}
    {k : PUnit → Prog (TpuEff nD τ sig (Elt F) Λ₀ .tc) α} :
    iprop(recs X K ∗ hopSt X c n ∗ go c n)
      ⊢ iprop((aft X c n -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma qs (.remote (Dev.tc n₁) qd (.dma a) e₁) (.dma b) h1 h2 h3) fun _ =>
             .op (.enqueueDma ws (.remote (Dev.tc n₂) wd (.dma aw) e₂) (.dma bw) h4 h5 h6) fun _ =>
             .op (.waitDma2 a' q1 q2 i1 i2) fun _ => .op (.waitDma2 b' q3 q4 i3 i4) fun _ =>
             .op (.waitDma2 aw' w1 w2 j1 j2) fun _ => .op (.waitDma2 bw' w3 w4 j3 j4) k) Q) := by
  iintro ⟨#HI, HS, HG⟩ Hk
  ihave HS := (hopSt_elim X c n) $$ HS
  icases HS with ⟨HA, HB, HQ, HW, HO, HT, HC⟩
  ihave HG := (go_elim c n) $$ HG
  icases HG with ⟨HP, HF⟩
  ihave HP := (pos_elim _ _) $$ HP
  icases HP with ⟨HP, #Hr⟩
  ihave HT := (take_first _ n 31 hn) $$ HT
  icases HT with ⟨⟨T1, T2⟩, HT⟩
  iapply (hop_run X K c n hn hqs hqd ha hb hn₁ hws hwd haw hbw hn₂ ha' hb' haw' hbw' c2 c4 d2 d4) $$ [HA HB HQ HW HF HO T1 T2]
  · isplitr; · iexact HI
    isplitl [HA]; · iexact HA
    isplitl [HB]; · iexact HB
    isplitl [HQ]; · iexact HQ
    isplitl [HW]; · iexact HW
    isplitl [HF]; · iexact HF
    isplitl [HO]; · iexact HO
    isplitr; · iexact Hr
    isplitl [T1] <;> iassumption
  iintro ⟨HA, HB, HQ, HW, HQ', HW', HO, Hr'⟩
  iapply Hk
  unfold aft
  isplitl [HA]; · iexact HA
  isplitl [HB]; · iexact HB
  isplitl [HQ]; · iexact HQ
  isplitl [HW]; · iexact HW
  isplitl [HQ']; · iexact HQ'
  isplitl [HW']; · iexact HW'
  isplitl [HO]; · iexact HO
  isplitl [Hr']; · iexact Hr'
  isplitl [HP]; · unfold pos; isplitl [HP]; · iexact HP
                  iexact Hr
  isplitl [HT] <;> iassumption

theorem hop_free (n : ℕ) (hn : n < 30) {n' : Dev nD} (hd : n' = prv c) {s : Sem sig} (hs : s = crS) {w : BitVec 32} (hw : w = 1#32)
    {k : PUnit → Prog (TpuEff nD τ sig (Elt F) Λ₀ .tc) α} :
    iprop(recs X K ∗ aft X c n)
      ⊢ iprop(((hopSt X c (n + 1) ∗ gate c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n') s w.toInt) k) Q) := by
  iintro ⟨#HI, HS⟩ Hk
  ihave HS := (aft_elim X c n) $$ HS
  icases HS with ⟨HA, HB, HQ, HW, HQ', HW', HO, Hr, HP, HT, HC⟩
  ihave HC := (take_first _ n 30 hn) $$ HC
  icases HC with ⟨HC1, HC⟩
  ihave HC1 := (crTok_elim c n) $$ HC1
  icases HC1 with ⟨Hd, Hc⟩
  ihave HA := (lane_elim false c (n + 1)) $$ HA
  icases HA with ⟨⟨A1, #a1⟩, A2, ⟨A3, #a3⟩, A4⟩
  ihave HB := (lane_elim true c (n + 1)) $$ HB
  icases HB with ⟨⟨B1, #b1⟩, B2, ⟨B3, #b3⟩, B4⟩
  iapply (credit_signal_step X K c n hn hd hs hw) $$ [HO Hd Hr HQ HW]
  · isplitr; · iexact HI
    isplitl [HO]; · iexact HO
    isplitl [Hd]; · iexact Hd
    isplitl [Hr]; · iexact Hr
    isplitl [HQ]; · iexact HQ
    isplitl [HW]; · iexact HW
    rw [show par n = par (n + 1 + 1) from (par_add_two n).symm]
    isplitr
    · iexact a3
    · iexact b3
  iintro HO
  iapply Hk
  isplitr [HP Hc]
  · unfold hopSt lane pos
    isplitl [A1 A2 A3 A4]
    · isplitl [A1]; · isplitl [A1]; · iexact A1
                      iexact a1
      isplitl [A2]; · iexact A2
      isplitl [A3]; · isplitl [A3]; · iexact A3
                      iexact a3
      iexact A4
    isplitl [B1 B2 B3 B4]
    · isplitl [B1]; · isplitl [B1]; · iexact B1
                      iexact b1
      isplitl [B2]; · iexact B2
      isplitl [B3]; · isplitl [B3]; · iexact B3
                      iexact b3
      iexact B4
    isplitl [HQ']; · iexact HQ'
    isplitl [HW']; · iexact HW'
    isplitl [HO]; · iexact HO
    isplitl [HT] <;> iassumption
  · unfold gate
    isplitl [HP] <;> iassumption

theorem gate_wait (n : ℕ) (hn : n < 30) {s : Sem sig} (hs : s = crS) {w : BitVec 32} (hw : w = 1#32)
    {k : PUnit → Prog (TpuEff nD τ sig (Elt F) Λ₀ .tc) α} :
    iprop(recs X K ∗ hopSt X c (n + 1) ∗ gate c (n + 1))
      ⊢ iprop(((hopSt X c (n + 1) ∗ go c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s w.toInt) k) Q) := by
  iintro ⟨#HI, HS, HG⟩ Hk
  ihave HS := (hopSt_elim X c (n + 1)) $$ HS
  icases HS with ⟨HA, HB, HQ, HW, HO, HR⟩
  ihave HG := (gate_elim c n) $$ HG
  icases HG with ⟨HP, Hc⟩
  ihave HP := (pos_elim _ _) $$ HP
  icases HP with ⟨HP, -⟩
  iapply (credit_wait_step X K c n hn hs hw) $$ [Hc HO HP]
  · isplitr; · iexact HI
    isplitl [Hc]; · iexact Hc
    isplitl [HO] <;> iassumption
  iintro ⟨HO, HP, HF⟩
  iapply Hk
  isplitr [HP HF]
  · unfold hopSt
    isplitl [HA]; · iexact HA
    isplitl [HB]; · iexact HB
    isplitl [HQ]; · iexact HQ
    isplitl [HW]; · iexact HW
    isplitl [HO] <;> iassumption
  · unfold go
    isplitl [HP] <;> iassumption

end Cert.RingProof

end
-- ==== Proof.Ring.GroupRun.lean ====
/-
  A group of heads as the program runs it: the loads, the heads, the accumulator.
-/
module

public import proofs.«01_k».proof.Proof.Ring.Group

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A group, from its loads to the accumulator -/

variable {α : Type} {Q : α → sProp (MT nD τ sig ℕ (Elt F) ℕ UU ℕ)} (c : Dev nD)

/-- What every group reads besides its shard: the rows, the signed permutation, the cosines and the sines. -/
def env (c : Dev nD) (xf : FVec F S512x768 .bf16) (pm : FVec F S256x256 .bf16) (co si : FVec F S512x256 .f32) : sProp 𝕄 :=
  iprop(whole xfM c xf ∗ whole pM c pm ∗ whole coM c co ∗ whole siM c si)

theorem env_elim (c : Dev nD) (xf : FVec F S512x768 .bf16) (pm : FVec F S256x256 .bf16) (co si : FVec F S512x256 .f32) :
    env c xf pm co si ⊢ (iprop(whole xfM c xf ∗ whole pM c pm ∗ whole coM c co ∗ whole siM c si) : sProp 𝕄) := by
  unfold env; exact BI.Entails.refl _

theorem group_run (s : Fin 2) {w : FVec F S768x768 .bf16} {u : FVec F S256x768 .bf16} (xf : FVec F S512x768 .bf16) (pm : FVec F S256x256 .bf16)
    (co si : FVec F S512x256 .f32) (x : S512x256.Idx → Elt F .bf16) (a : S512x768.Idx → Elt F .f32)
    {r1 : Rect S2x768x768} {r2 : Rect S2x256x768} (hr1 : r1 = at_ false s) (hr2 : r2 = at_ true s)
    {t1 : (buf false).view.LoadsAt r1.toLoadRect} {t2 : (buf true).view.LoadsAt r2.toLoadRect} {t3 : xfM.view.LoadsAt (Rect.unit (s := S512x768) ![0, 0] S512x768.size inb_S512x768_S512x768_0_0).toLoadRect}
    {t4 : pM.view.LoadsAt (Rect.unit (s := S256x256) ![0, 0] S256x256.size inb_S256x256_S256x256_0_0).toLoadRect} {t5 : coM.view.LoadsAt (Rect.unit (s := S512x256) ![0, 0] S512x256.size inb_S512x256_S512x256_0_0).toLoadRect} {t6 : siM.view.LoadsAt (Rect.unit (s := S512x256) ![0, 0] S512x256.size inb_S512x256_S512x256_0_0).toLoadRect}
    {w00 : (r1.shape.Idx → Elt F .bf16) → (r2.shape.Idx → Elt F .bf16) → FVec F S512x768 .bf16 → FVec F S256x256 .bf16 → FVec F S512x256 .f32 → FVec F S512x256 .f32 → FVec F S256x64 .bf16} {l00 : ctxM.view.LoadsAt (hR ![0, 0] inb_S512x256_S256x64_0_0).toLoadRect} {s00 : (ctxM.access (hR ![0, 0] inb_S512x256_S256x64_0_0)).Stores Finset.univ} {m00 : Finset.univ = Finset.univ ∨ ∀ a, (hR ![0, 0] inb_S512x256_S256x64_0_0).stride a = 1}
    {w01 : (r1.shape.Idx → Elt F .bf16) → (r2.shape.Idx → Elt F .bf16) → FVec F S512x768 .bf16 → FVec F S256x256 .bf16 → FVec F S512x256 .f32 → FVec F S512x256 .f32 → FVec F S256x64 .bf16} {l01 : ctxM.view.LoadsAt (hR ![0, 64] inb_S512x256_S256x64_0_64).toLoadRect} {s01 : (ctxM.access (hR ![0, 64] inb_S512x256_S256x64_0_64)).Stores Finset.univ} {m01 : Finset.univ = Finset.univ ∨ ∀ a, (hR ![0, 64] inb_S512x256_S256x64_0_64).stride a = 1}
    {w02 : (r1.shape.Idx → Elt F .bf16) → (r2.shape.Idx → Elt F .bf16) → FVec F S512x768 .bf16 → FVec F S256x256 .bf16 → FVec F S512x256 .f32 → FVec F S512x256 .f32 → FVec F S256x64 .bf16} {l02 : ctxM.view.LoadsAt (hR ![0, 128] inb_S512x256_S256x64_0_128).toLoadRect} {s02 : (ctxM.access (hR ![0, 128] inb_S512x256_S256x64_0_128)).Stores Finset.univ} {m02 : Finset.univ = Finset.univ ∨ ∀ a, (hR ![0, 128] inb_S512x256_S256x64_0_128).stride a = 1}
    {w03 : (r1.shape.Idx → Elt F .bf16) → (r2.shape.Idx → Elt F .bf16) → FVec F S512x768 .bf16 → FVec F S256x256 .bf16 → FVec F S512x256 .f32 → FVec F S512x256 .f32 → FVec F S256x64 .bf16} {l03 : ctxM.view.LoadsAt (hR ![0, 192] inb_S512x256_S256x64_0_192).toLoadRect} {s03 : (ctxM.access (hR ![0, 192] inb_S512x256_S256x64_0_192)).Stores Finset.univ} {m03 : Finset.univ = Finset.univ ∨ ∀ a, (hR ![0, 192] inb_S512x256_S256x64_0_192).stride a = 1}
    {w10 : (r1.shape.Idx → Elt F .bf16) → (r2.shape.Idx → Elt F .bf16) → FVec F S512x768 .bf16 → FVec F S256x256 .bf16 → FVec F S512x256 .f32 → FVec F S512x256 .f32 → FVec F S256x64 .bf16} {l10 : ctxM.view.LoadsAt (hR ![256, 0] inb_S512x256_S256x64_256_0).toLoadRect} {s10 : (ctxM.access (hR ![256, 0] inb_S512x256_S256x64_256_0)).Stores Finset.univ} {m10 : Finset.univ = Finset.univ ∨ ∀ a, (hR ![256, 0] inb_S512x256_S256x64_256_0).stride a = 1}
    {w11 : (r1.shape.Idx → Elt F .bf16) → (r2.shape.Idx → Elt F .bf16) → FVec F S512x768 .bf16 → FVec F S256x256 .bf16 → FVec F S512x256 .f32 → FVec F S512x256 .f32 → FVec F S256x64 .bf16} {l11 : ctxM.view.LoadsAt (hR ![256, 64] inb_S512x256_S256x64_256_64).toLoadRect} {s11 : (ctxM.access (hR ![256, 64] inb_S512x256_S256x64_256_64)).Stores Finset.univ} {m11 : Finset.univ = Finset.univ ∨ ∀ a, (hR ![256, 64] inb_S512x256_S256x64_256_64).stride a = 1}
    {w12 : (r1.shape.Idx → Elt F .bf16) → (r2.shape.Idx → Elt F .bf16) → FVec F S512x768 .bf16 → FVec F S256x256 .bf16 → FVec F S512x256 .f32 → FVec F S512x256 .f32 → FVec F S256x64 .bf16} {l12 : ctxM.view.LoadsAt (hR ![256, 128] inb_S512x256_S256x64_256_128).toLoadRect} {s12 : (ctxM.access (hR ![256, 128] inb_S512x256_S256x64_256_128)).Stores Finset.univ} {m12 : Finset.univ = Finset.univ ∨ ∀ a, (hR ![256, 128] inb_S512x256_S256x64_256_128).stride a = 1}
    {w13 : (r1.shape.Idx → Elt F .bf16) → (r2.shape.Idx → Elt F .bf16) → FVec F S512x768 .bf16 → FVec F S256x256 .bf16 → FVec F S512x256 .f32 → FVec F S512x256 .f32 → FVec F S256x64 .bf16} {l13 : ctxM.view.LoadsAt (hR ![256, 192] inb_S512x256_S256x64_256_192).toLoadRect} {s13 : (ctxM.access (hR ![256, 192] inb_S512x256_S256x64_256_192)).Stores Finset.univ} {m13 : Finset.univ = Finset.univ ∨ ∀ a, (hR ![256, 192] inb_S512x256_S256x64_256_192).stride a = 1}
    {g1 : accM.view.LoadsAt (Rect.unit (s := S512x768) ![0, 0] S512x768.size inb_S512x768_S512x768_0_0).toLoadRect} {g2 : ctxM.view.LoadsAt (Rect.unit (s := S512x256) ![0, 0] S512x256.size inb_S512x256_S512x256_0_0).toLoadRect} {g3 : accM.view.LoadsAt (Rect.unit (s := S512x768) ![0, 0] S512x768.size inb_S512x768_S512x768_0_0).toLoadRect}
    {P : (r1.shape.Idx → Elt F .bf16) → (r2.shape.Idx → Elt F .bf16) → FVec F S512x768 .bf16 → FVec F S256x256 .bf16 → FVec F S512x256 .f32 → FVec F S512x256 .f32 → FVec F S512x768 .f32 → FVec F S512x256 .bf16 → FVec F S512x768 .f32}
    {g4 : (accM.access (Rect.unit (s := S512x768) ![0, 0] S512x768.size inb_S512x768_S512x768_0_0)).Stores Finset.univ} {g5 : Finset.univ = Finset.univ ∨ ∀ a, (Rect.unit (s := S512x768) ![0, 0] S512x768.size inb_S512x768_S512x768_0_0).stride a = 1}
    {k : (r1.shape.Idx → Elt F .bf16) → (r2.shape.Idx → Elt F .bf16) → FVec F S512x768 .bf16 → FVec F S256x256 .bf16 → FVec F S512x256 .f32 → FVec F S512x256 .f32 → PUnit → Prog (TpuEff nD τ sig (Elt F) Λ₀ .tc) α}
    (p : Fin 2 → Fin 4 → FVec F S256x64 .bf16)
    (hp : p = head (rot pm co si (proj xf w ![0, 0] slices_S768x768_o0_0_S768x256)) (rot pm co si (proj xf w ![0, 256] slices_S768x768_o0_256_S768x256))
      (truncf .bf16 (proj xf w ![0, 512] slices_S768x768_o0_512_S768x256) bitsLt_bf16_f32))
    (he : ∀ (v1 : r1.shape.Idx → Elt F .bf16) (v2 : r2.shape.Idx → Elt F .bf16) (h1 : r1.shape.ShapeCasts S768x768) (h2 : r2.shape.ShapeCasts S256x768),
      shapeCast S768x768 v1 h1 = w → shapeCast S256x768 v2 h2 = u →
      (w00 v1 v2 xf pm co si = p 0 0 ∧ w01 v1 v2 xf pm co si = p 0 1 ∧ w02 v1 v2 xf pm co si = p 0 2 ∧ w03 v1 v2 xf pm co si = p 0 3 ∧ w10 v1 v2 xf pm co si = p 1 0 ∧ w11 v1 v2 xf pm co si = p 1 1 ∧ w12 v1 v2 xf pm co si = p 1 2 ∧ w13 v1 v2 xf pm co si = p 1 3)
      ∧ ∀ a y, P v1 v2 xf pm co si a y = addTo a y u) :
    iprop(sAt false c s w ∗ sAt true c s u ∗ env c xf pm co si ∗ whole ctxM c x ∗ whole accM c a)
      ⊢ iprop((∀ v1 v2, (sAt false c s w ∗ sAt true c s u ∗ env c xf pm co si ∗ whole ctxM c (ctxOf xf pm co si w) ∗ whole accM c (addTo a (ctxOf xf pm co si w) u))
            -∗ wp frame (wpE (defs₀ (F := F)) 𝒱₀ (c : Thread nD τ) none) Set.univ (k v1 v2 xf pm co si ⟨⟩) Q)
      -∗ wp frame (wpE (defs₀ (F := F)) 𝒱₀ (c : Thread nD τ) none) Set.univ (
        .op (.load (buf false) r1.toLoadRect t1) fun v1 => .op (.load (buf true) r2.toLoadRect t2) fun v2 =>
        .op (.load xfM (Rect.unit (s := S512x768) ![0, 0] S512x768.size inb_S512x768_S512x768_0_0).toLoadRect t3) fun (v3 : S512x768.Idx → Elt F .bf16) => .op (.load pM (Rect.unit (s := S256x256) ![0, 0] S256x256.size inb_S256x256_S256x256_0_0).toLoadRect t4) fun (v4 : S256x256.Idx → Elt F .bf16) =>
        .op (.load coM (Rect.unit (s := S512x256) ![0, 0] S512x256.size inb_S512x256_S512x256_0_0).toLoadRect t5) fun (v5 : S512x256.Idx → Elt F .f32) => .op (.load siM (Rect.unit (s := S512x256) ![0, 0] S512x256.size inb_S512x256_S512x256_0_0).toLoadRect t6) fun (v6 : S512x256.Idx → Elt F .f32) =>
        .op (.load ctxM (hR ![0, 0] inb_S512x256_S256x64_0_0).toLoadRect l00) fun _ => .op (.store ctxM (hR ![0, 0] inb_S512x256_S256x64_0_0) (w00 v1 v2 v3 v4 v5 v6) Finset.univ s00 m00) fun _ =>
        .op (.load ctxM (hR ![0, 64] inb_S512x256_S256x64_0_64).toLoadRect l01) fun _ => .op (.store ctxM (hR ![0, 64] inb_S512x256_S256x64_0_64) (w01 v1 v2 v3 v4 v5 v6) Finset.univ s01 m01) fun _ =>
        .op (.load ctxM (hR ![0, 128] inb_S512x256_S256x64_0_128).toLoadRect l02) fun _ => .op (.store ctxM (hR ![0, 128] inb_S512x256_S256x64_0_128) (w02 v1 v2 v3 v4 v5 v6) Finset.univ s02 m02) fun _ =>
        .op (.load ctxM (hR ![0, 192] inb_S512x256_S256x64_0_192).toLoadRect l03) fun _ => .op (.store ctxM (hR ![0, 192] inb_S512x256_S256x64_0_192) (w03 v1 v2 v3 v4 v5 v6) Finset.univ s03 m03) fun _ =>
        .op (.load ctxM (hR ![256, 0] inb_S512x256_S256x64_256_0).toLoadRect l10) fun _ => .op (.store ctxM (hR ![256, 0] inb_S512x256_S256x64_256_0) (w10 v1 v2 v3 v4 v5 v6) Finset.univ s10 m10) fun _ =>
        .op (.load ctxM (hR ![256, 64] inb_S512x256_S256x64_256_64).toLoadRect l11) fun _ => .op (.store ctxM (hR ![256, 64] inb_S512x256_S256x64_256_64) (w11 v1 v2 v3 v4 v5 v6) Finset.univ s11 m11) fun _ =>
        .op (.load ctxM (hR ![256, 128] inb_S512x256_S256x64_256_128).toLoadRect l12) fun _ => .op (.store ctxM (hR ![256, 128] inb_S512x256_S256x64_256_128) (w12 v1 v2 v3 v4 v5 v6) Finset.univ s12 m12) fun _ =>
        .op (.load ctxM (hR ![256, 192] inb_S512x256_S256x64_256_192).toLoadRect l13) fun _ => .op (.store ctxM (hR ![256, 192] inb_S512x256_S256x64_256_192) (w13 v1 v2 v3 v4 v5 v6) Finset.univ s13 m13) fun _ =>
        .op (.load accM (Rect.unit (s := S512x768) ![0, 0] S512x768.size inb_S512x768_S512x768_0_0).toLoadRect g1) fun (a : S512x768.Idx → Elt F .f32) => .op (.load ctxM (Rect.unit (s := S512x256) ![0, 0] S512x256.size inb_S512x256_S512x256_0_0).toLoadRect g2) fun (x : S512x256.Idx → Elt F .bf16) => .op (.load accM (Rect.unit (s := S512x768) ![0, 0] S512x768.size inb_S512x768_S512x768_0_0).toLoadRect g3) fun _ =>
        .op (.store accM (Rect.unit (s := S512x768) ![0, 0] S512x768.size inb_S512x768_S512x768_0_0) (P v1 v2 v3 v4 v5 v6 a x) Finset.univ g4 g5) (k v1 v2 v3 v4 v5 v6)) Q) := by
  subst hr1 hr2
  iintro ⟨HQ, HW, HE, HX, HA⟩ Hk
  iapply (slot_load c false s) $$ HQ
  iintro %v1 %e1 HQ
  iapply (slot_load c true s) $$ HW
  iintro %v2 %e2 HW
  ihave HE := (env_elim c xf pm co si) $$ HE
  icases HE with ⟨H1, H2, H3, H4⟩
  iapply (whole_load c (m := xfM) (x := xf) (off := ![0, 0]) (by decide)) $$ H1
  iintro H1
  iapply (whole_load c (m := pM) (x := pm) (off := ![0, 0]) (by decide)) $$ H2
  iintro H2
  iapply (whole_load c (m := coM) (x := co) (off := ![0, 0]) (by decide)) $$ H3
  iintro H3
  iapply (whole_load c (m := siM) (x := si) (off := ![0, 0]) (by decide)) $$ H4
  iintro H4
  obtain ⟨⟨e00, e01, e02, e03, e10, e11, e12, e13⟩, eP⟩ := he v1 v2 _ _ e1 e2
  iapply (heads_run c p x a (P := P v1 v2 xf pm co si) e00 e01 e02 e03 e10 e11 e12 e13) $$ [HX HA]
  · isplitl [HX] <;> iassumption
  iintro ⟨HX, HA⟩
  rw [eP, show beside p = ctxOf xf pm co si w by rw [hp]; rfl]
  ispecialize Hk $$ %v1 %v2
  iapply Hk
  isplitl [HQ]; · iexact HQ
  isplitl [HW]; · iexact HW
  isplitl [H1 H2 H3 H4]
  · unfold env
    isplitl [H1]; · iexact H1
    isplitl [H2]; · iexact H2
    isplitl [H3] <;> iassumption
  isplitl [HX] <;> iassumption

end Cert.RingProof

end
-- ==== Proof.Ring.TripPre.lean ====
/-
  The steps of a trip: guarded wait, hop, group.
-/
module

public import proofs.«01_k».proof.Proof.Ring.State
public import proofs.«01_k».proof.Proof.Ring.GroupRun

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (X : (l : Bool) → Dev nD → (sh l).Idx → Elt F .bf16)

/-! ## One trip of the loop: two hops -/

/-- The accumulator of device `c` after the shards of its `n + 1` nearest devices to the left, itself first. -/
def accAt (c : Dev nD) (xf : FVec F S512x768 .bf16) (pm : FVec F S256x256 .bf16) (co si : FVec F S512x256 .f32) (z : FVec F S512x768 .f32) :
    ℕ → FVec F S512x768 .f32
  | 0 => addTo z (ctxOf xf pm co si (X false c)) (X true c)
  | n + 1 => addTo (accAt c xf pm co si z n) (ctxOf xf pm co si (X false (prv^[n + 1] c))) (X true (prv^[n + 1] c))

/-- What stands before trip `t`. -/
def tripSt (c : Dev nD) (xf : FVec F S512x768 .bf16) (pm : FVec F S256x256 .bf16) (co si : FVec F S512x256 .f32) (z : FVec F S512x768 .f32)
    (t : ℕ) : sProp 𝕄 :=
  iprop(hopSt X c (2 * t) ∗ gate c (2 * t) ∗ env c xf pm co si ∗ (∃ x, whole ctxM c x) ∗ whole accM c (accAt X c xf pm co si z (2 * t)))

variable (K : GSem nD τ sig → ℕ) (c : Dev nD)

theorem tripSt_elim (xf : FVec F S512x768 .bf16) (pm : FVec F S256x256 .bf16) (co si : FVec F S512x256 .f32) (z : FVec F S512x768 .f32) (t : ℕ) :
    tripSt X c xf pm co si z t ⊢ (iprop(hopSt X c (2 * t) ∗ gate c (2 * t) ∗ env c xf pm co si ∗ (∃ x, whole ctxM c x) ∗ whole accM c (accAt X c xf pm co si z (2 * t))) : sProp 𝕄) := by
  unfold tripSt; exact BI.Entails.refl _

variable {α : Type} {Q : α → sProp (MT nD τ sig ℕ (Elt F) ℕ UU ℕ)}

/-- The six ops of hop `n`, out of slot `s` into slot `s'`. -/
theorem hop_at (n : ℕ) (s s' : Fin 2) (hs : par n = s) (hs' : par (n + 1) = s') (hn : n < 31) {n₁ n₂ : Dev nD} (hn₁ : n₁ = nxt c) (hn₂ : n₂ = nxt c)
    {e₁ : (slot false s').view.ref.isScScratch = false} {e₂ : (slot true s').view.ref.isScScratch = false}
    {h1 : (slot false s).view.WordExact} {h2 : (slot false s').view.WordExact} {h3} {h4 : (slot true s).view.WordExact} {h5 : (slot true s').view.WordExact} {h6}
    {i1 : (slot false s').view.WordExact} {i2 : (slot false s).view.WordExact} {i3 : (slot false s).view.WordExact} {i4 : (slot false s').view.WordExact}
    {j1 : (slot true s').view.WordExact} {j2 : (slot true s).view.WordExact} {j3 : (slot true s).view.WordExact} {j4 : (slot true s').view.WordExact}
    {k : PUnit → Prog (TpuEff nD τ sig (Elt F) Λ₀ .tc) α} :
    iprop(recs X K ∗ hopSt X c n ∗ go c n)
      ⊢ iprop((aft X c n -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slot false s) (.remote (Dev.tc n₁) (slot false s') (.dma (sS false s)) e₁) (.dma (rS false s')) h1 h2 h3) fun _ =>
             .op (.enqueueDma (slot true s) (.remote (Dev.tc n₂) (slot true s') (.dma (sS true s)) e₂) (.dma (rS true s')) h4 h5 h6) fun _ =>
             .op (.waitDma2 (sS false s) (slot false s') (slot false s) i1 i2) fun _ => .op (.waitDma2 (rS false s') (slot false s) (slot false s') i3 i4) fun _ =>
             .op (.waitDma2 (sS true s) (slot true s') (slot true s) j1 j2) fun _ => .op (.waitDma2 (rS true s') (slot true s) (slot true s') j3 j4) k) Q) := by
  subst hs hs'
  exact hop_go X K c n hn rfl rfl rfl rfl hn₁ rfl rfl rfl rfl hn₂ rfl rfl rfl rfl (credit_slot _ _) (credit_slot _ _) (credit_slot _ _) (credit_slot _ _)

theorem guard_iff (t : Fin k0_t1_loop.trips) :
    (Scalar.cmpi .ne (Scalar.extui (Scalar.cmpi .sge (Scf.iv 0#32 1#32 t) 1#32) : BitVec 32) 0#32 = 1#1) ↔ 1 ≤ t.val := by
  revert t; decide

/-- The first wait of a trip, which the first trip skips. -/
theorem guard_step (t : ℕ) (ht : t < 15) {P : Prop} [Decidable P] (hP : P ↔ 1 ≤ t) {s : Sem sig} (hs : s = crS) {w : BitVec 32} (hw : w = 1#32)
    {β : Type} {m : Prog (TpuEff nD τ sig (Elt F) Λ₀ .tc) β} {k : β → Prog (TpuEff nD τ sig (Elt F) Λ₀ .tc) α} :
    iprop(recs X K ∗ hopSt X c (2 * t) ∗ gate c (2 * t))
      ⊢ iprop(((hopSt X c (2 * t) ∗ go c (2 * t)) -∗ wp frame (wpE (defs₀ (F := F)) 𝒱₀ (c : Thread nD τ) none) Set.univ (m >>= k) Q)
          -∗ wp frame (wpE (defs₀ (F := F)) 𝒱₀ (c : Thread nD τ) none) Set.univ
            ((if h : P then (.op (.semWait s w.toInt) fun _ => m) else m) >>= k) Q) := by
  by_cases h : P
  · obtain ⟨r, rfl⟩ : ∃ r, t = r + 1 := ⟨t - 1, by have := hP.1 h; omega⟩
    rw [dif_pos h]
    rw [Prog.bind_op, show 2 * (r + 1) = 2 * r + 1 + 1 by omega]
    exact gate_wait X K c (2 * r + 1) (by omega) hs hw (k := fun _ => m >>= k)
  · obtain rfl : t = 0 := by by_contra h0; exact h (hP.2 (by omega))
    rw [dif_neg h]
    simp only [Nat.mul_zero]
    iintro ⟨#HI, HS, HG⟩ Hk
    iapply Hk
    isplitl [HS]; · iexact HS
    unfold gate go
    iexact HG

/-- A group on the shard that device `c` carries into hop `n`. -/
theorem group_at (n : ℕ) (s : Fin 2) (hs : par n = s) (xf : FVec F S512x768 .bf16) (pm : FVec F S256x256 .bf16)
    (co si : FVec F S512x256 .f32) (a : S512x768.Idx → Elt F .f32)
    {r1 : Rect S2x768x768} {r2 : Rect S2x256x768} (hr1 : r1 = at_ false s) (hr2 : r2 = at_ true s)
    {t1 : (buf false).view.LoadsAt r1.toLoadRect} {t2 : (buf true).view.LoadsAt r2.toLoadRect} {t3 : xfM.view.LoadsAt (Rect.unit (s := S512x768) ![0, 0] S512x768.size inb_S512x768_S512x768_0_0).toLoadRect}
    {t4 : pM.view.LoadsAt (Rect.unit (s := S256x256) ![0, 0] S256x256.size inb_S256x256_S256x256_0_0).toLoadRect} {t5 : coM.view.LoadsAt (Rect.unit (s := S512x256) ![0, 0] S512x256.size inb_S512x256_S512x256_0_0).toLoadRect} {t6 : siM.view.LoadsAt (Rect.unit (s := S512x256) ![0, 0] S512x256.size inb_S512x256_S512x256_0_0).toLoadRect}
    {w00 : (r1.shape.Idx → Elt F .bf16) → (r2.shape.Idx → Elt F .bf16) → FVec F S512x768 .bf16 → FVec F S256x256 .bf16 → FVec F S512x256 .f32 → FVec F S512x256 .f32 → FVec F S256x64 .bf16} {l00 : ctxM.view.LoadsAt (hR ![0, 0] inb_S512x256_S256x64_0_0).toLoadRect} {s00 : (ctxM.access (hR ![0, 0] inb_S512x256_S256x64_0_0)).Stores Finset.univ} {m00 : Finset.univ = Finset.univ ∨ ∀ a, (hR ![0, 0] inb_S512x256_S256x64_0_0).stride a = 1}
    {w01 : (r1.shape.Idx → Elt F .bf16) → (r2.shape.Idx → Elt F .bf16) → FVec F S512x768 .bf16 → FVec F S256x256 .bf16 → FVec F S512x256 .f32 → FVec F S512x256 .f32 → FVec F S256x64 .bf16} {l01 : ctxM.view.LoadsAt (hR ![0, 64] inb_S512x256_S256x64_0_64).toLoadRect} {s01 : (ctxM.access (hR ![0, 64] inb_S512x256_S256x64_0_64)).Stores Finset.univ} {m01 : Finset.univ = Finset.univ ∨ ∀ a, (hR ![0, 64] inb_S512x256_S256x64_0_64).stride a = 1}
    {w02 : (r1.shape.Idx → Elt F .bf16) → (r2.shape.Idx → Elt F .bf16) → FVec F S512x768 .bf16 → FVec F S256x256 .bf16 → FVec F S512x256 .f32 → FVec F S512x256 .f32 → FVec F S256x64 .bf16} {l02 : ctxM.view.LoadsAt (hR ![0, 128] inb_S512x256_S256x64_0_128).toLoadRect} {s02 : (ctxM.access (hR ![0, 128] inb_S512x256_S256x64_0_128)).Stores Finset.univ} {m02 : Finset.univ = Finset.univ ∨ ∀ a, (hR ![0, 128] inb_S512x256_S256x64_0_128).stride a = 1}
    {w03 : (r1.shape.Idx → Elt F .bf16) → (r2.shape.Idx → Elt F .bf16) → FVec F S512x768 .bf16 → FVec F S256x256 .bf16 → FVec F S512x256 .f32 → FVec F S512x256 .f32 → FVec F S256x64 .bf16} {l03 : ctxM.view.LoadsAt (hR ![0, 192] inb_S512x256_S256x64_0_192).toLoadRect} {s03 : (ctxM.access (hR ![0, 192] inb_S512x256_S256x64_0_192)).Stores Finset.univ} {m03 : Finset.univ = Finset.univ ∨ ∀ a, (hR ![0, 192] inb_S512x256_S256x64_0_192).stride a = 1}
    {w10 : (r1.shape.Idx → Elt F .bf16) → (r2.shape.Idx → Elt F .bf16) → FVec F S512x768 .bf16 → FVec F S256x256 .bf16 → FVec F S512x256 .f32 → FVec F S512x256 .f32 → FVec F S256x64 .bf16} {l10 : ctxM.view.LoadsAt (hR ![256, 0] inb_S512x256_S256x64_256_0).toLoadRect} {s10 : (ctxM.access (hR ![256, 0] inb_S512x256_S256x64_256_0)).Stores Finset.univ} {m10 : Finset.univ = Finset.univ ∨ ∀ a, (hR ![256, 0] inb_S512x256_S256x64_256_0).stride a = 1}
    {w11 : (r1.shape.Idx → Elt F .bf16) → (r2.shape.Idx → Elt F .bf16) → FVec F S512x768 .bf16 → FVec F S256x256 .bf16 → FVec F S512x256 .f32 → FVec F S512x256 .f32 → FVec F S256x64 .bf16} {l11 : ctxM.view.LoadsAt (hR ![256, 64] inb_S512x256_S256x64_256_64).toLoadRect} {s11 : (ctxM.access (hR ![256, 64] inb_S512x256_S256x64_256_64)).Stores Finset.univ} {m11 : Finset.univ = Finset.univ ∨ ∀ a, (hR ![256, 64] inb_S512x256_S256x64_256_64).stride a = 1}
    {w12 : (r1.shape.Idx → Elt F .bf16) → (r2.shape.Idx → Elt F .bf16) → FVec F S512x768 .bf16 → FVec F S256x256 .bf16 → FVec F S512x256 .f32 → FVec F S512x256 .f32 → FVec F S256x64 .bf16} {l12 : ctxM.view.LoadsAt (hR ![256, 128] inb_S512x256_S256x64_256_128).toLoadRect} {s12 : (ctxM.access (hR ![256, 128] inb_S512x256_S256x64_256_128)).Stores Finset.univ} {m12 : Finset.univ = Finset.univ ∨ ∀ a, (hR ![256, 128] inb_S512x256_S256x64_256_128).stride a = 1}
    {w13 : (r1.shape.Idx → Elt F .bf16) → (r2.shape.Idx → Elt F .bf16) → FVec F S512x768 .bf16 → FVec F S256x256 .bf16 → FVec F S512x256 .f32 → FVec F S512x256 .f32 → FVec F S256x64 .bf16} {l13 : ctxM.view.LoadsAt (hR ![256, 192] inb_S512x256_S256x64_256_192).toLoadRect} {s13 : (ctxM.access (hR ![256, 192] inb_S512x256_S256x64_256_192)).Stores Finset.univ} {m13 : Finset.univ = Finset.univ ∨ ∀ a, (hR ![256, 192] inb_S512x256_S256x64_256_192).stride a = 1}
    {g1 : accM.view.LoadsAt (Rect.unit (s := S512x768) ![0, 0] S512x768.size inb_S512x768_S512x768_0_0).toLoadRect} {g2 : ctxM.view.LoadsAt (Rect.unit (s := S512x256) ![0, 0] S512x256.size inb_S512x256_S512x256_0_0).toLoadRect} {g3 : accM.view.LoadsAt (Rect.unit (s := S512x768) ![0, 0] S512x768.size inb_S512x768_S512x768_0_0).toLoadRect}
    {P : (r1.shape.Idx → Elt F .bf16) → (r2.shape.Idx → Elt F .bf16) → FVec F S512x768 .bf16 → FVec F S256x256 .bf16 → FVec F S512x256 .f32 → FVec F S512x256 .f32 → FVec F S512x768 .f32 → FVec F S512x256 .bf16 → FVec F S512x768 .f32}
    {g4 : (accM.access (Rect.unit (s := S512x768) ![0, 0] S512x768.size inb_S512x768_S512x768_0_0)).Stores Finset.univ} {g5 : Finset.univ = Finset.univ ∨ ∀ a, (Rect.unit (s := S512x768) ![0, 0] S512x768.size inb_S512x768_S512x768_0_0).stride a = 1}
    {k : (r1.shape.Idx → Elt F .bf16) → (r2.shape.Idx → Elt F .bf16) → FVec F S512x768 .bf16 → FVec F S256x256 .bf16 → FVec F S512x256 .f32 → FVec F S512x256 .f32 → PUnit → Prog (TpuEff nD τ sig (Elt F) Λ₀ .tc) α}
    (he : ∀ (w : FVec F S768x768 .bf16) (u : FVec F S256x768 .bf16) (v1 : r1.shape.Idx → Elt F .bf16) (v2 : r2.shape.Idx → Elt F .bf16) (h1 : r1.shape.ShapeCasts S768x768) (h2 : r2.shape.ShapeCasts S256x768),
      shapeCast S768x768 v1 h1 = w → shapeCast S256x768 v2 h2 = u →
      ((∀ (p : Fin 2 → Fin 4 → FVec F S256x64 .bf16), p = head (rot pm co si (proj xf w ![0, 0] slices_S768x768_o0_0_S768x256)) (rot pm co si (proj xf w ![0, 256] slices_S768x768_o0_256_S768x256))
      (truncf .bf16 (proj xf w ![0, 512] slices_S768x768_o0_512_S768x256) bitsLt_bf16_f32) → (w00 v1 v2 xf pm co si = p 0 0 ∧ w01 v1 v2 xf pm co si = p 0 1 ∧ w02 v1 v2 xf pm co si = p 0 2 ∧ w03 v1 v2 xf pm co si = p 0 3 ∧ w10 v1 v2 xf pm co si = p 1 0 ∧ w11 v1 v2 xf pm co si = p 1 1 ∧ w12 v1 v2 xf pm co si = p 1 2 ∧ w13 v1 v2 xf pm co si = p 1 3))
      ∧ ∀ a y, P v1 v2 xf pm co si a y = addTo a y u)) :
    iprop(hopSt X c n ∗ env c xf pm co si ∗ (∃ x, whole ctxM c x) ∗ whole accM c a)
      ⊢ iprop((∀ v1 v2, (hopSt X c n ∗ env c xf pm co si ∗ (∃ x, whole ctxM c x)
              ∗ whole accM c (addTo a (ctxOf xf pm co si (X false (prv^[n] c))) (X true (prv^[n] c))))
            -∗ wp frame (wpE (defs₀ (F := F)) 𝒱₀ (c : Thread nD τ) none) Set.univ (k v1 v2 xf pm co si ⟨⟩) Q)
      -∗ wp frame (wpE (defs₀ (F := F)) 𝒱₀ (c : Thread nD τ) none) Set.univ (
        .op (.load (buf false) r1.toLoadRect t1) fun v1 => .op (.load (buf true) r2.toLoadRect t2) fun v2 =>
        .op (.load xfM (Rect.unit (s := S512x768) ![0, 0] S512x768.size inb_S512x768_S512x768_0_0).toLoadRect t3) fun (v3 : S512x768.Idx → Elt F .bf16) => .op (.load pM (Rect.unit (s := S256x256) ![0, 0] S256x256.size inb_S256x256_S256x256_0_0).toLoadRect t4) fun (v4 : S256x256.Idx → Elt F .bf16) =>
        .op (.load coM (Rect.unit (s := S512x256) ![0, 0] S512x256.size inb_S512x256_S512x256_0_0).toLoadRect t5) fun (v5 : S512x256.Idx → Elt F .f32) => .op (.load siM (Rect.unit (s := S512x256) ![0, 0] S512x256.size inb_S512x256_S512x256_0_0).toLoadRect t6) fun (v6 : S512x256.Idx → Elt F .f32) =>
        .op (.load ctxM (hR ![0, 0] inb_S512x256_S256x64_0_0).toLoadRect l00) fun _ => .op (.store ctxM (hR ![0, 0] inb_S512x256_S256x64_0_0) (w00 v1 v2 v3 v4 v5 v6) Finset.univ s00 m00) fun _ =>
        .op (.load ctxM (hR ![0, 64] inb_S512x256_S256x64_0_64).toLoadRect l01) fun _ => .op (.store ctxM (hR ![0, 64] inb_S512x256_S256x64_0_64) (w01 v1 v2 v3 v4 v5 v6) Finset.univ s01 m01) fun _ =>
        .op (.load ctxM (hR ![0, 128] inb_S512x256_S256x64_0_128).toLoadRect l02) fun _ => .op (.store ctxM (hR ![0, 128] inb_S512x256_S256x64_0_128) (w02 v1 v2 v3 v4 v5 v6) Finset.univ s02 m02) fun _ =>
        .op (.load ctxM (hR ![0, 192] inb_S512x256_S256x64_0_192).toLoadRect l03) fun _ => .op (.store ctxM (hR ![0, 192] inb_S512x256_S256x64_0_192) (w03 v1 v2 v3 v4 v5 v6) Finset.univ s03 m03) fun _ =>
        .op (.load ctxM (hR ![256, 0] inb_S512x256_S256x64_256_0).toLoadRect l10) fun _ => .op (.store ctxM (hR ![256, 0] inb_S512x256_S256x64_256_0) (w10 v1 v2 v3 v4 v5 v6) Finset.univ s10 m10) fun _ =>
        .op (.load ctxM (hR ![256, 64] inb_S512x256_S256x64_256_64).toLoadRect l11) fun _ => .op (.store ctxM (hR ![256, 64] inb_S512x256_S256x64_256_64) (w11 v1 v2 v3 v4 v5 v6) Finset.univ s11 m11) fun _ =>
        .op (.load ctxM (hR ![256, 128] inb_S512x256_S256x64_256_128).toLoadRect l12) fun _ => .op (.store ctxM (hR ![256, 128] inb_S512x256_S256x64_256_128) (w12 v1 v2 v3 v4 v5 v6) Finset.univ s12 m12) fun _ =>
        .op (.load ctxM (hR ![256, 192] inb_S512x256_S256x64_256_192).toLoadRect l13) fun _ => .op (.store ctxM (hR ![256, 192] inb_S512x256_S256x64_256_192) (w13 v1 v2 v3 v4 v5 v6) Finset.univ s13 m13) fun _ =>
        .op (.load accM (Rect.unit (s := S512x768) ![0, 0] S512x768.size inb_S512x768_S512x768_0_0).toLoadRect g1) fun (a : S512x768.Idx → Elt F .f32) => .op (.load ctxM (Rect.unit (s := S512x256) ![0, 0] S512x256.size inb_S512x256_S512x256_0_0).toLoadRect g2) fun (x : S512x256.Idx → Elt F .bf16) => .op (.load accM (Rect.unit (s := S512x768) ![0, 0] S512x768.size inb_S512x768_S512x768_0_0).toLoadRect g3) fun _ =>
        .op (.store accM (Rect.unit (s := S512x768) ![0, 0] S512x768.size inb_S512x768_S512x768_0_0) (P v1 v2 v3 v4 v5 v6 a x) Finset.univ g4 g5) (k v1 v2 v3 v4 v5 v6)) Q) := by
  subst hs
  iintro ⟨HS, HE, ⟨%x, HX⟩, HA⟩ Hk
  ihave HS := (hopSt_slots X c n) $$ HS
  icases HS with ⟨HQ, HW, HR⟩
  iapply (group_run c (par n) xf pm co si x a hr1 hr2 _ rfl (fun v1 v2 h1 h2 e1 e2 => ⟨(he _ _ v1 v2 h1 h2 e1 e2).1 _ rfl, (he _ _ v1 v2 h1 h2 e1 e2).2⟩)) $$ [HQ HW HE HX HA]
  · isplitl [HQ]; · iexact HQ
    isplitl [HW]; · iexact HW
    isplitl [HE]; · iexact HE
    isplitl [HX] <;> iassumption
  iintro %v1 %v2 ⟨HQ, HW, HE, HX, HA⟩
  ispecialize Hk $$ %v1 %v2
  iapply Hk
  isplitl [HQ HW HR]; · iapply HR $$ HQ HW
  isplitl [HE]; · iexact HE
  isplitr [HA]
  · iexists (ctxOf xf pm co si (X false (prv^[n] c)))
    iexact HX
  · iexact HA

end Cert.RingProof

end
-- ==== Proof.Ring.Trip.lean ====
/-
  One trip of the loop.
-/
module

public import proofs.«01_k».proof.Proof.Ring.TripPre

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (X : (l : Bool) → Dev nD → (sh l).Idx → Elt F .bf16)
variable (K : GSem nD τ sig → ℕ) (c : Dev nD)

/-! ## One trip of the loop -/

theorem dev3 : ∀ c : Dev nD, (⟨k0_dev3 c, k0_dev3_lt c⟩ : Dev nD) = nxt c := by decide
theorem dev4 : ∀ c : Dev nD, (⟨k0_dev4 c, k0_dev4_lt c⟩ : Dev nD) = nxt c := by decide
theorem dev5 : ∀ c : Dev nD, (⟨k0_dev5 c, k0_dev5_lt c⟩ : Dev nD) = prv c := by decide
theorem dev6 : ∀ c : Dev nD, (⟨k0_dev6 c, k0_dev6_lt c⟩ : Dev nD) = nxt c := by decide
theorem dev7 : ∀ c : Dev nD, (⟨k0_dev7 c, k0_dev7_lt c⟩ : Dev nD) = nxt c := by decide
theorem dev8 : ∀ c : Dev nD, (⟨k0_dev8 c, k0_dev8_lt c⟩ : Dev nD) = prv c := by decide
theorem dev9 : ∀ c : Dev nD, (⟨k0_dev9 c, k0_dev9_lt c⟩ : Dev nD) = nxt c := by decide
theorem dev10 : ∀ c : Dev nD, (⟨k0_dev10 c, k0_dev10_lt c⟩ : Dev nD) = nxt c := by decide

set_option maxHeartbeats 4000000 in
theorem trip_run (xf : FVec F S512x768 .bf16) (pm : FVec F S256x256 .bf16) (co si : FVec F S512x256 .f32) (z : FVec F S512x768 .f32)
    (v5 v7 : BitVec 32) (v50 : FVec F S256x768 .bf16) (v63 : FVec F S512x256 .bf16) (v223 v224 : FVec F S256x64 .bf16) (cst : FVec F S256x256 .f32)
    (t : Fin k0_t1_loop.trips) :
    iprop(recs X K ∗ tripSt X c xf pm co si z t.val) ⊢
      wp frame (wpE (defs₀ (F := F)) 𝒱₀ (c : Thread nD τ) none) Set.univ
        (k0_t1_body xM (Memref.isWhole_whole _) wqM (Memref.isWhole_whole _) wkM (Memref.isWhole_whole _) wvM (Memref.isWhole_whole _)
          woM (Memref.isWhole_whole _) coM (Memref.isWhole_whole _) siM (Memref.isWhole_whole _) pM (Memref.isWhole_whole _) outM (Memref.isWhole_whole _)
          xfM (Memref.isWhole_whole _) ctxM (Memref.isWhole_whole _) accM (Memref.isWhole_whole _) (buf false) (Memref.isWhole_whole _)
          (buf true) (Memref.isWhole_whole _) cc0_scratch5 cc0_scratch6 cc0_scratch7 cc0_scratch8 cc0_scratch9 c v5 v7 v50 v63 v223 v224 cst t ())
        (fun _ => tripSt X c xf pm co si z (t.val + 1)) := by
  unfold k0_t1_body
  simp only [k0_part14_eq_skeleton]
  unfold k0_part14_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [semSignalWord, semWaitWord, Prog.lift, Prog.bind_op, Prog.bind_ret, Prog.pure_eq_ret, Prog.bind_assoc]
  have ht : t.val < 15 := t.isLt
  iintro ⟨#HI, HS⟩
  ihave HS := (tripSt_elim X c xf pm co si z t.val) $$ HS
  icases HS with ⟨HS, HG, HE, HX, HA⟩
  iapply (guard_step X K c t.val ht (guard_iff t) rfl rfl) $$ [HS HG]
  · isplitr; · iexact HI
    isplitl [HS] <;> iassumption
  iintro ⟨HS, HG⟩
  simp only [Prog.bind_op, Prog.bind_ret]
  iapply (hop_at X K c (2 * t.val) 0 1 (par_even _) (par_odd _) (by omega) (dev3 c) (dev4 c)) $$ [HS HG]
  · isplitr; · iexact HI
    isplitl [HS] <;> iassumption
  iintro HS
  iapply (hop_free X K c (2 * t.val) (by omega) (dev5 c) rfl rfl) $$ [HS]
  · isplitr; · iexact HI
    iexact HS
  iintro ⟨HS, HG⟩
  iapply (group_at X c (2 * t.val + 1) 1 (par_odd _) xf pm co si _ rfl rfl (fun w u v1 v2 h1 h2 e1 e2 => by subst e1 e2; exact ⟨fun p hp => by subst hp; exact ⟨rfl, rfl, rfl, rfl, rfl, rfl, rfl, rfl⟩, fun _ _ => rfl⟩)) $$ [HS HE HX HA]
  · isplitl [HS]; · iexact HS
    isplitl [HE]; · iexact HE
    isplitl [HX] <;> iassumption
  iintro %v1 %v2 ⟨HS, HE, HX, HA⟩
  iapply (gate_wait X K c (2 * t.val) (by omega) rfl rfl) $$ [HS HG]
  · isplitr; · iexact HI
    isplitl [HS] <;> iassumption
  iintro ⟨HS, HG⟩
  iapply (hop_at X K c (2 * t.val + 1) 1 0 (par_odd _) (par_even (t.val + 1)) (by omega) (dev6 c) (dev7 c)) $$ [HS HG]
  · isplitr; · iexact HI
    isplitl [HS] <;> iassumption
  iintro HS
  iapply (hop_free X K c (2 * t.val + 1) (by omega) (dev8 c) rfl rfl) $$ [HS]
  · isplitr; · iexact HI
    iexact HS
  iintro ⟨HS, HG⟩
  iapply (group_at X c (2 * t.val + 1 + 1) 0 (par_even (t.val + 1)) xf pm co si _ rfl rfl (fun w u v1 v2 h1 h2 e1 e2 => by subst e1 e2; exact ⟨fun p hp => by subst hp; exact ⟨rfl, rfl, rfl, rfl, rfl, rfl, rfl, rfl⟩, fun _ _ => rfl⟩)) $$ [HS HE HX HA]
  · isplitl [HS]; · iexact HS
    isplitl [HE]; · iexact HE
    isplitl [HX] <;> iassumption
  iintro %v1 %v2 ⟨HS, HE, HX, HA⟩
  rw [wp_ret]
  imodintro
  unfold tripSt
  rw [show 2 * (t.val + 1) = 2 * t.val + 1 + 1 by omega]
  isplitl [HS]; · iexact HS
  isplitl [HG]; · iexact HG
  isplitl [HE]; · iexact HE
  isplitl [HX]; · iexact HX
  iexact HA

end Cert.RingProof

end
-- ==== Proof.Ring.Init.lean ====
/-
  What a device fills in before the first hop, and what it writes at the end.
-/
module

public import proofs.«01_k».proof.Proof.Ring.Group

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
open Idealize.ShloMosaic.ValueIdx

/-! ## What a device fills in before the first hop, and what it writes at the end -/

section Values
variable {V : Type}

/-- Two batches' rows one below the other. -/
def rowsOf (x : S2x256x768.Idx → V) : S512x768.Idx → V := fun i =>
  x (ix3 ⟨(i 0).val / 256, by have : (i 0).val < 512 := (i 0).isLt; omega⟩ ⟨(i 0).val % 256, Nat.mod_lt _ (by decide)⟩ (i 1))

/-- The rows taken apart into two batches again. -/
def batchesOf (a : S512x768.Idx → V) : S2x256x768.Idx → V := fun i =>
  a (ix2 ⟨256 * (i 0).val + (i 1).val, by have h0 : (i 0).val < 2 := (i 0).isLt; have h1 : (i 1).val < 256 := (i 1).isLt; omega⟩ (i 2))

/-- Three weights side by side. -/
def threeAt (wq wk wv : S768x256.Idx → V) (i : Fin 768) (j : Fin 768) : V :=
  if h : j.val < 256 then wq (ix2 i ⟨j.val, h⟩)
  else if h' : j.val < 512 then wk (ix2 i ⟨j.val - 256, by omega⟩) else wv (ix2 i ⟨j.val - 512, by omega⟩)

/-- Three weights side by side, as one array. -/
def three (wq wk wv : S768x256.Idx → V) : S768x768.Idx → V := fun j => threeAt wq wk wv (j 0) (j 1)

/-- The same over a buffer of two slots. -/
def threes (wq wk wv : S768x256.Idx → V) : S2x768x768.Idx → V := fun j => threeAt wq wk wv (j 1) (j 2)

theorem rows_at (x : S2x256x768.Idx → V) (b : Fin 2) {o : Fin 2 → ℕ} (ho : o = ![256 * b.val, 0]) {o' : Fin 3 → ℕ} (ho' : o' = ![b.val, 0, 0]) (inb inb')
    (h : S1x256x768.ShapeCasts S256x768) (z : S256x768.Idx) :
    shapeCast S256x768 (fun z => x ((Rect.unit (s := S2x256x768) o' S1x256x768.size inb').emb z)) h z
      = rowsOf x ((Rect.unit (s := S512x768) o S256x768.size inb).emb z) := by
  subst ho ho'
  rw [eq_ix2 z]
  refine (shapeCast_1ab_ab_apply (a := 256) (b := 768) _ h (z 0) (z 1)).trans (congrArg x (funext fun a => Fin.ext ?_))
  have h0 : (z 0).val < 256 := (z 0).isLt
  have h1 : (z 1).val < 768 := (z 1).isLt
  match a with
  | 0 => show b.val + 1 * 0 = (256 * b.val + 1 * (z 0).val) / 256; omega
  | 1 => show 0 + 1 * (z 0).val = (256 * b.val + 1 * (z 0).val) % 256; omega
  | 2 => show 0 + 1 * (z 1).val = 0 + 1 * (z 1).val; rfl

theorem batches_at (x : S512x768.Idx → V) (b : Fin 2) {o : Fin 2 → ℕ} (ho : o = ![256 * b.val, 0]) {o' : Fin 3 → ℕ} (ho' : o' = ![b.val, 0, 0]) (inb inb')
    (h : S256x768.ShapeCasts S1x256x768) (z : S1x256x768.Idx) :
    shapeCast S1x256x768 (fun z => x ((Rect.unit (s := S512x768) o S256x768.size inb).emb z)) h z
      = batchesOf x ((Rect.unit (s := S2x256x768) o' S1x256x768.size inb').emb z) := by
  subst ho ho'
  rw [eq_ix3 z]
  refine (shapeCast_ab_1ab_apply (a := 256) (b := 768) _ h (z 0) (z 1) (z 2)).trans (congrArg x (funext fun a => Fin.ext ?_))
  have h0 : (z 0).val < 1 := (z 0).isLt
  match a with
  | 0 => show 256 * b.val + 1 * (z 1).val = 256 * (b.val + 1 * (z 0).val) + (0 + 1 * (z 1).val); omega
  | 1 => show 0 + 1 * (z 2).val = 0 + 1 * (z 2).val; rfl

theorem three_at (wq wk wv : S768x256.Idx → V) (p : Fin 3) {o : Fin 3 → ℕ} (ho : o = ![0, 0, 256 * p.val]) (inb)
    (h : S768x256.ShapeCasts S1x768x256) (z : S1x768x256.Idx) :
    shapeCast S1x768x256 (match p with | 0 => wq | 1 => wk | 2 => wv) h z
      = threes wq wk wv ((Rect.unit (s := S2x768x768) o S1x768x256.size inb).emb z) := by
  subst ho
  rw [eq_ix3 z]
  refine (shapeCast_ab_1ab_apply (a := 768) (b := 256) _ h (z 0) (z 1) (z 2)).trans ?_
  have h2 : (z 2).val < 256 := (z 2).isLt
  have e : ∀ (j : Fin 768), j.val = 256 * p.val + 1 * (z 2).val → ∀ i : Fin 768, i.val = (z 1).val →
      (match p with | 0 => wq | 1 => wk | 2 => wv) (ix2 (z 1) (z 2)) = threeAt wq wk wv i j := by
    intro j hj i hi
    obtain rfl : i = z 1 := Fin.ext hi
    unfold threeAt
    match p with
    | 0 => rw [dif_pos (by simp only [Fin.val_zero] at hj; omega)]; exact congrArg wq (congrArg (ix2 _) (Fin.ext (by simp only [Fin.val_zero] at hj; show (z 2).val = j.val; omega)))
    | 1 =>
      rw [dif_neg (by simp only [Fin.val_one] at hj; omega), dif_pos (by simp only [Fin.val_one] at hj; omega)]
      exact congrArg wk (congrArg (ix2 _) (Fin.ext (by simp only [Fin.val_one] at hj; show (z 2).val = j.val - 256; omega)))
    | 2 =>
      have hj : j.val = 256 * 2 + 1 * (z 2).val := hj
      rw [dif_neg (by omega), dif_neg (by omega)]
      exact congrArg wv (congrArg (ix2 _) (Fin.ext (by show (z 2).val = j.val - 512; omega)))
  exact e _ rfl _ (by show 0 + 1 * (z 1).val = _; omega)

theorem three_of {wq wk wv : S768x256.Idx → V} {y : S2x768x768.Idx → V} (h : Agree (threes wq wk wv) (at_ false 0).set y) :
    shapeCast (sh false) (fun z => y ((at_ false 0).emb z)) (casts false 0) = three wq wk wv := by
  funext j
  have hz : (fun z => y ((at_ false 0).emb z)) = fun z => threes wq wk wv ((at_ false 0).emb z) := funext fun z => h _ ((at_ false 0).idx_mem z)
  rw [hz]
  rw [show j = ix2 (n0 := 768) (n1 := 768) (j 0) (j 1) from eq_ix2 j]
  refine (shapeCast_1ab_ab_apply (a := 768) (b := 768) _ (casts false 0) (j 0) (j 1)).trans ?_
  refine congr (congrArg (threeAt wq wk wv) (Fin.ext ?_)) (Fin.ext ?_)
  · show 0 + 1 * (j 0).val = (j 0).val; omega
  · show 0 + 1 * (j 1).val = (j 1).val; omega

end Values

variable (c : Dev nD) {α : Type} {Q : α → sProp (MT nD τ sig ℕ (Elt F) ℕ UU ℕ)}

/-- A rectangle of a buffer read and then overwritten with its part of `G`. -/
theorem fill_step {s : Shape} {e : EltTy} {m : Memref sig .tc .vmem s e} {D₀ D : Finset s.Idx} {G x : s.Idx → Elt F e} (hx : Agree G D x)
    (r : Rect s) (hr : r.set ⊆ D₀) {w : r.shape.Idx → Elt F e} (hw : ∀ z, w z = G (r.emb z))
    {h1 : m.view.LoadsAt r.toLoadRect} {h2 : (m.access r).Stores Finset.univ} {h3 : Finset.univ = Finset.univ ∨ ∀ a, r.stride a = 1}
    {k : PUnit → Prog (TpuEff nD τ sig (Elt F) Λ₀ .tc) α} :
    holds m c D₀ x ⊢ iprop((∀ x', ⌜Agree G (D ∪ r.set) x'⌝ -∗ holds m c D₀ x' -∗ wp frame (wpE (defs₀ (F := F)) 𝒱₀ (c : Thread nD τ) none) Set.univ (k ⟨⟩) Q)
      -∗ wp frame (wpE (defs₀ (F := F)) 𝒱₀ (c : Thread nD τ) none) Set.univ
        (.op (.load m r.toLoadRect h1) fun _ => .op (.store m r w Finset.univ h2 h3) k) Q) := by
  iintro H Hk
  iapply (holds_load c (m := m) (D := D₀) (r := r) (x := x) hr) $$ H
  iintro H
  iapply (holds_store c (m := m) (D := D₀) (r := r) (x := x) (w := w) hr) $$ H
  iintro H
  ispecialize Hk $$ %(put x r w)
  iapply Hk $$ [] H
  ipureintro
  exact agree_put hx _ _ hw

/-- Both halves of the rows written. -/
theorem rows_all (G x : S512x768.Idx → Elt F .bf16)
    (h : Agree G ((∅ ∪ (Rect.unit (s := S512x768) ![0, 0] S256x768.size inb_S512x768_S256x768_0_0).set) ∪ (Rect.unit (s := S512x768) ![256, 0] S256x768.size inb_S512x768_S256x768_256_0).set) x) :
    x = G := funext fun y => h y (by
  have h0 : (y 0).val < 512 := (y 0).isLt
  have h1 : (y 1).val < 768 := (y 1).isLt
  simp only [Finset.mem_union, Rect.mem_set_unit, Fin.forall_fin_two]
  show ((_ ∨ ((0 ≤ (y 0).val ∧ (y 0).val < 0 + 256) ∧ (0 ≤ (y 1).val ∧ (y 1).val < 0 + 768)))
    ∨ ((256 ≤ (y 0).val ∧ (y 0).val < 256 + 256) ∧ (0 ≤ (y 1).val ∧ (y 1).val < 0 + 768)))
  omega)

theorem fin3_all {P : Fin 3 → Prop} (h0 : P 0) (h1 : P 1) (h2 : P 2) : ∀ a, P a := fun a => match a with | 0 => h0 | 1 => h1 | 2 => h2

/-- Both batches written. -/
theorem batches_all (G x : S2x256x768.Idx → Elt F .f32)
    (h : Agree G ((∅ ∪ (Rect.unit (s := S2x256x768) ![0, 0, 0] S1x256x768.size inb_S2x256x768_S1x256x768_0_0_0).set) ∪ (Rect.unit (s := S2x256x768) ![1, 0, 0] S1x256x768.size inb_S2x256x768_S1x256x768_1_0_0).set) x) :
    x = G := funext fun y => h y (by
  have h0 : (y 0).val < 2 := (y 0).isLt
  have h1 : (y 1).val < 256 := (y 1).isLt
  have h2 : (y 2).val < 768 := (y 2).isLt
  simp only [Finset.mem_union, Rect.mem_set_unit]
  by_cases hy : (y 0).val = 0
  · refine Or.inl (Or.inr (fin3_all ?_ ?_ ?_))
    · show 0 ≤ (y 0).val ∧ (y 0).val < 0 + 1; omega
    · show 0 ≤ (y 1).val ∧ (y 1).val < 0 + 256; omega
    · show 0 ≤ (y 2).val ∧ (y 2).val < 0 + 768; omega
  · refine Or.inr (fin3_all ?_ ?_ ?_)
    · show 1 ≤ (y 0).val ∧ (y 0).val < 1 + 1; omega
    · show 0 ≤ (y 1).val ∧ (y 1).val < 0 + 256; omega
    · show 0 ≤ (y 2).val ∧ (y 2).val < 0 + 768; omega)

/-- The three weights written: slot 0 holds them side by side. -/
theorem threes_all (G x : S2x768x768.Idx → Elt F .bf16)
    (h : Agree G (((∅ ∪ (Rect.unit (s := S2x768x768) ![0, 0, 0] S1x768x256.size inb_S2x768x768_S1x768x256_0_0_0).set)
      ∪ (Rect.unit (s := S2x768x768) ![0, 0, 256] S1x768x256.size inb_S2x768x768_S1x768x256_0_0_256).set)
      ∪ (Rect.unit (s := S2x768x768) ![0, 0, 512] S1x768x256.size inb_S2x768x768_S1x768x256_0_0_512).set) x) :
    Agree G (at_ false 0).set x := fun y hy => h y (by
  have hy : ∀ a, _ := Rect.mem_set_unit.1 hy
  have h0 : 0 ≤ (y 0).val ∧ (y 0).val < 0 + 1 := hy 0
  have h1 : (y 1).val < 768 := (y 1).isLt
  have h2 : (y 2).val < 768 := (y 2).isLt
  simp only [Finset.mem_union, Rect.mem_set_unit]
  by_cases hb : (y 2).val < 256
  · refine Or.inl (Or.inl (Or.inr (fin3_all h0 ?_ ?_)))
    · show 0 ≤ (y 1).val ∧ (y 1).val < 0 + 768; omega
    · show 0 ≤ (y 2).val ∧ (y 2).val < 0 + 256; omega
  by_cases hc : (y 2).val < 512
  · refine Or.inl (Or.inr (fin3_all h0 ?_ ?_))
    · show 0 ≤ (y 1).val ∧ (y 1).val < 0 + 768; omega
    · show 256 ≤ (y 2).val ∧ (y 2).val < 256 + 256; omega
  · refine Or.inr (fin3_all h0 ?_ ?_)
    · show 0 ≤ (y 1).val ∧ (y 1).val < 0 + 768; omega
    · show 512 ≤ (y 2).val ∧ (y 2).val < 512 + 256; omega)

theorem three_sub {o : ℕ} (ho : o + 256 ≤ 768) (inb) : (Rect.unit (s := S2x768x768) ![0, 0, o] S1x768x256.size inb).set ⊆ (at_ false 0).set := fun y hy => by
  have hy : ∀ a, _ := Rect.mem_set_unit.1 hy
  have h0 : 0 ≤ (y 0).val ∧ (y 0).val < 0 + 1 := hy 0
  have h1 : (y 1).val < 768 := (y 1).isLt
  have h2 : (y 2).val < 768 := (y 2).isLt
  exact Rect.mem_set_unit.2 (fin3_all h0 (by show 0 ≤ (y 1).val ∧ (y 1).val < 0 + 768; omega) (by show 0 ≤ (y 2).val ∧ (y 2).val < 0 + 768; omega))

end Cert.RingProof

end
-- ==== Proof.Ring.Fill.lean ====
/-
  The first shard and the rows written, and the result.
-/
module

public import proofs.«01_k».proof.Proof.Ring.Init

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
open Idealize.ShloMosaic.ValueIdx
variable (c : Dev nD) {α : Type} {Q : α → sProp (MT nD τ sig ℕ (Elt F) ℕ UU ℕ)}

/-! ## The first shard and the rows written -/

abbrev rX (b : ℕ) (inb : ∀ a, (![b, 0, 0] : Fin 3 → ℕ) a + S1x256x768.size a ≤ S2x256x768.size a) : Rect S2x256x768 :=
  Rect.unit (s := S2x256x768) ![b, 0, 0] S1x256x768.size inb
abbrev rR (b : ℕ) (inb : ∀ a, (![b, 0] : Fin 2 → ℕ) a + S256x768.size a ≤ S512x768.size a) : Rect S512x768 :=
  Rect.unit (s := S512x768) ![b, 0] S256x768.size inb
abbrev rQ (b : ℕ) (inb : ∀ a, (![0, 0, b] : Fin 3 → ℕ) a + S1x768x256.size a ≤ S2x768x768.size a) : Rect S2x768x768 :=
  Rect.unit (s := S2x768x768) ![0, 0, b] S1x768x256.size inb

theorem rows_fill (x : FVec F S2x256x768 .bf16) (xf : FVec F S512x768 .bf16)
    {w w' : FVec F S1x256x768 .bf16 → FVec F S256x768 .bf16}
    (hw : ∀ v, w v = shapeCast S256x768 (shapeCast S256x768 v shapeCasts_S1x256x768_S256x768) shapeCasts_S256x768_S256x768)
    (hw' : ∀ v, w' v = shapeCast S256x768 (shapeCast S256x768 v shapeCasts_S1x256x768_S256x768) shapeCasts_S256x768_S256x768)
    {a1 : xM.view.LoadsAt (rX 0 inb_S2x256x768_S1x256x768_0_0_0).toLoadRect} {a2 : xfM.view.LoadsAt (rR 0 inb_S512x768_S256x768_0_0).toLoadRect}
    {a3 : (xfM.access (rR 0 inb_S512x768_S256x768_0_0)).Stores Finset.univ} {a4 : Finset.univ = Finset.univ ∨ ∀ a, (rR 0 inb_S512x768_S256x768_0_0).stride a = 1}
    {b1 : xM.view.LoadsAt (rX 1 inb_S2x256x768_S1x256x768_1_0_0).toLoadRect} {b2 : xfM.view.LoadsAt (rR 256 inb_S512x768_S256x768_256_0).toLoadRect}
    {b3 : (xfM.access (rR 256 inb_S512x768_S256x768_256_0)).Stores Finset.univ} {b4 : Finset.univ = Finset.univ ∨ ∀ a, (rR 256 inb_S512x768_S256x768_256_0).stride a = 1}
    {k : PUnit → Prog (TpuEff nD τ sig (Elt F) Λ₀ .tc) α} :
    iprop(whole xM c x ∗ whole xfM c xf)
      ⊢ iprop(((whole xM c x ∗ whole xfM c (rowsOf x)) -∗ wp frame (wpE (defs₀ (F := F)) 𝒱₀ (c : Thread nD τ) none) Set.univ (k ⟨⟩) Q)
          -∗ wp frame (wpE (defs₀ (F := F)) 𝒱₀ (c : Thread nD τ) none) Set.univ (
        .op (.load xM (rX 0 inb_S2x256x768_S1x256x768_0_0_0).toLoadRect a1) fun (v : S1x256x768.Idx → Elt F .bf16) => .op (.load xfM (rR 0 inb_S512x768_S256x768_0_0).toLoadRect a2) fun _ =>
        .op (.store xfM (rR 0 inb_S512x768_S256x768_0_0) (w v) Finset.univ a3 a4) fun _ =>
        .op (.load xM (rX 1 inb_S2x256x768_S1x256x768_1_0_0).toLoadRect b1) fun (v : S1x256x768.Idx → Elt F .bf16) => .op (.load xfM (rR 256 inb_S512x768_S256x768_256_0).toLoadRect b2) fun _ =>
        .op (.store xfM (rR 256 inb_S512x768_S256x768_256_0) (w' v) Finset.univ b3 b4) k) Q) := by
  have e0 : ∀ z, w (fun z => x ((rX 0 inb_S2x256x768_S1x256x768_0_0_0).emb z)) z = rowsOf x ((rR 0 inb_S512x768_S256x768_0_0).emb z) := fun z => by
    rw [hw, shapeCast_self]; exact rows_at x 0 rfl rfl _ _ _ z
  have e1 : ∀ z, w' (fun z => x ((rX 1 inb_S2x256x768_S1x256x768_1_0_0).emb z)) z = rowsOf x ((rR 256 inb_S512x768_S256x768_256_0).emb z) := fun z => by
    rw [hw', shapeCast_self]; exact rows_at x 1 rfl rfl _ _ _ z
  iintro ⟨Hx, Hxf⟩ Hk
  iapply (holds_load c (m := xM) (D := Finset.univ) (r := rX 0 inb_S2x256x768_S1x256x768_0_0_0) (x := x) (Finset.subset_univ _)) $$ Hx
  iintro Hx
  iapply (fill_step c (m := xfM) (D₀ := Finset.univ) (agree_empty (rowsOf x) xf) (rR 0 inb_S512x768_S256x768_0_0) (Finset.subset_univ _) e0) $$ Hxf
  iintro %xf1 %hxf1 Hxf
  iapply (holds_load c (m := xM) (D := Finset.univ) (r := rX 1 inb_S2x256x768_S1x256x768_1_0_0) (x := x) (Finset.subset_univ _)) $$ Hx
  iintro Hx
  iapply (fill_step c (m := xfM) (D₀ := Finset.univ) hxf1 (rR 256 inb_S512x768_S256x768_256_0) (Finset.subset_univ _) e1) $$ Hxf
  iintro %xf2 %hxf2 Hxf
  rw [rows_all _ _ hxf2]
  iapply Hk
  isplitl [Hx] <;> iassumption

theorem rows_out (a : FVec F S512x768 .f32) (o : FVec F S2x256x768 .f32)
    {w w' : FVec F S256x768 .f32 → FVec F S1x256x768 .f32}
    (hw : ∀ v, w v = shapeCast S1x256x768 v shapeCasts_S256x768_S1x256x768) (hw' : ∀ v, w' v = shapeCast S1x256x768 v shapeCasts_S256x768_S1x256x768)
    {a1 : accM.view.LoadsAt (rR 0 inb_S512x768_S256x768_0_0).toLoadRect} {a2 : outM.view.LoadsAt (rX 0 inb_S2x256x768_S1x256x768_0_0_0).toLoadRect}
    {a3 : (outM.access (rX 0 inb_S2x256x768_S1x256x768_0_0_0)).Stores Finset.univ} {a4 : Finset.univ = Finset.univ ∨ ∀ a, (rX 0 inb_S2x256x768_S1x256x768_0_0_0).stride a = 1}
    {b1 : accM.view.LoadsAt (rR 256 inb_S512x768_S256x768_256_0).toLoadRect} {b2 : outM.view.LoadsAt (rX 1 inb_S2x256x768_S1x256x768_1_0_0).toLoadRect}
    {b3 : (outM.access (rX 1 inb_S2x256x768_S1x256x768_1_0_0)).Stores Finset.univ} {b4 : Finset.univ = Finset.univ ∨ ∀ a, (rX 1 inb_S2x256x768_S1x256x768_1_0_0).stride a = 1}
    {k : PUnit → Prog (TpuEff nD τ sig (Elt F) Λ₀ .tc) α} :
    iprop(whole accM c a ∗ whole outM c o)
      ⊢ iprop(((whole accM c a ∗ whole outM c (batchesOf a)) -∗ wp frame (wpE (defs₀ (F := F)) 𝒱₀ (c : Thread nD τ) none) Set.univ (k ⟨⟩) Q)
          -∗ wp frame (wpE (defs₀ (F := F)) 𝒱₀ (c : Thread nD τ) none) Set.univ (
        .op (.load accM (rR 0 inb_S512x768_S256x768_0_0).toLoadRect a1) fun (v : S256x768.Idx → Elt F .f32) => .op (.load outM (rX 0 inb_S2x256x768_S1x256x768_0_0_0).toLoadRect a2) fun _ =>
        .op (.store outM (rX 0 inb_S2x256x768_S1x256x768_0_0_0) (w v) Finset.univ a3 a4) fun _ =>
        .op (.load accM (rR 256 inb_S512x768_S256x768_256_0).toLoadRect b1) fun (v : S256x768.Idx → Elt F .f32) => .op (.load outM (rX 1 inb_S2x256x768_S1x256x768_1_0_0).toLoadRect b2) fun _ =>
        .op (.store outM (rX 1 inb_S2x256x768_S1x256x768_1_0_0) (w' v) Finset.univ b3 b4) k) Q) := by
  have e0 : ∀ z, w (fun z => a ((rR 0 inb_S512x768_S256x768_0_0).emb z)) z = batchesOf a ((rX 0 inb_S2x256x768_S1x256x768_0_0_0).emb z) := fun z => by
    rw [hw]; exact batches_at a 0 rfl rfl _ _ _ z
  have e1 : ∀ z, w' (fun z => a ((rR 256 inb_S512x768_S256x768_256_0).emb z)) z = batchesOf a ((rX 1 inb_S2x256x768_S1x256x768_1_0_0).emb z) := fun z => by
    rw [hw']; exact batches_at a 1 rfl rfl _ _ _ z
  iintro ⟨Hx, Hxf⟩ Hk
  iapply (holds_load c (m := accM) (D := Finset.univ) (r := rR 0 inb_S512x768_S256x768_0_0) (x := a) (Finset.subset_univ _)) $$ Hx
  iintro Hx
  iapply (fill_step c (m := outM) (D₀ := Finset.univ) (agree_empty (batchesOf a) o) (rX 0 inb_S2x256x768_S1x256x768_0_0_0) (Finset.subset_univ _) e0) $$ Hxf
  iintro %xf1 %hxf1 Hxf
  iapply (holds_load c (m := accM) (D := Finset.univ) (r := rR 256 inb_S512x768_S256x768_256_0) (x := a) (Finset.subset_univ _)) $$ Hx
  iintro Hx
  iapply (fill_step c (m := outM) (D₀ := Finset.univ) hxf1 (rX 1 inb_S2x256x768_S1x256x768_1_0_0) (Finset.subset_univ _) e1) $$ Hxf
  iintro %xf2 %hxf2 Hxf
  rw [batches_all _ _ hxf2]
  iapply Hk
  isplitl [Hx] <;> iassumption

theorem pay49_eq (v : FVec F S768x256 .bf16) : k0_pay49 (k0_pay48 v) = shapeCast S1x768x256 (shapeCast S768x256 v shapeCasts_S768x256_S768x256) shapeCasts_S768x256_S1x768x256 := rfl
theorem pay50_eq (v : FVec F S768x256 .bf16) : k0_pay50 v = shapeCast S1x768x256 (shapeCast S768x256 v shapeCasts_S768x256_S768x256) shapeCasts_S768x256_S1x768x256 := rfl
theorem pay51_eq (v : FVec F S768x256 .bf16) : k0_pay51 v = shapeCast S1x768x256 (shapeCast S768x256 v shapeCasts_S768x256_S768x256) shapeCasts_S768x256_S1x768x256 := rfl
theorem pay52_eq (v : FVec F S256x768 .bf16) : k0_pay52 v = shapeCast S1x256x768 (shapeCast S256x768 v shapeCasts_S256x768_S256x768) shapeCasts_S256x768_S1x256x768 := rfl

theorem part_q (wq wk wv : FVec F S768x256 .bf16) (z) : k0_pay49 (k0_pay48 wq) z = threes wq wk wv ((rQ 0 inb_S2x768x768_S1x768x256_0_0_0).emb z) := by
  rw [pay49_eq, shapeCast_self]; exact three_at wq wk wv 0 rfl _ _ z
theorem part_k (wq wk wv : FVec F S768x256 .bf16) (z) : k0_pay50 wk z = threes wq wk wv ((rQ 256 inb_S2x768x768_S1x768x256_0_0_256).emb z) := by
  rw [pay50_eq, shapeCast_self]; exact three_at wq wk wv 1 rfl _ _ z
theorem part_v (wq wk wv : FVec F S768x256 .bf16) (z) : k0_pay51 wv z = threes wq wk wv ((rQ 512 inb_S2x768x768_S1x768x256_0_0_512).emb z) := by
  rw [pay51_eq, shapeCast_self]; exact three_at wq wk wv 2 rfl _ _ z

theorem put_wo (wo : FVec F S256x768 .bf16) (u : FVec F S2x256x768 .bf16) :
    shapeCast (sh true) (fun z => put u (at_ true 0) (k0_pay52 wo) ((at_ true 0).emb z)) (casts true 0) = wo := by
  rw [show (fun z => put u (at_ true 0) (k0_pay52 wo) ((at_ true 0).emb z)) = k0_pay52 wo from funext fun z => put_emb u (at_ true 0) (k0_pay52 wo) z, pay52_eq, shapeCast_self]
  funext j
  rw [show j = ix2 (n0 := 256) (n1 := 768) (j 0) (j 1) from eq_ix2 j]
  refine (shapeCast_1ab_ab_apply (a := 256) (b := 768) _ (casts true 0) (j 0) (j 1)).trans ?_
  exact shapeCast_ab_1ab_apply (a := 256) (b := 768) wo _ 0 (j 0) (j 1)

end Cert.RingProof

end
-- ==== Proof.Ring.Bar.lean ====
/-
  The barrier, and a device's cells closed at the end.
-/
module

public import proofs.«01_k».proof.Proof.Ring.Hop

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (X : (l : Bool) → Dev nD → (sh l).Idx → Elt F .bf16)
variable (K : GSem nD τ sig → ℕ) (c : Dev nD)
variable {α : Type} {Q : α → sProp (MT nD τ sig ℕ (Elt F) ℕ UU ℕ)}

/-! ## The barrier -/

theorem dev1 : ∀ c : Dev nD, (⟨k0_dev1 c, k0_dev1_lt c⟩ : Dev nD) = prv c := by decide
theorem dev2 : ∀ c : Dev nD, (⟨k0_dev2 c, k0_dev2_lt c⟩ : Dev nD) = nxt c := by decide

/-- What a device owes when the region starts: its hops, and one signal to each neighbour. -/
def oweAll (c : Dev nD) : CellTallies nD τ sig ℕ := owe c 0 + tallyAt (barCell (nxt c)) 0 1 + tallyAt (barCell (prv c)) 0 1

/-- The signals to both neighbours, and the wait for both of theirs: this device's slots 1 go to the left, and the
right neighbour's come in. -/
theorem bar_run {n₁ n₂ : Dev nD} (hn₁ : n₁ = prv c) (hn₂ : n₂ = nxt c) {s₁ s₂ s₃ : Sem sig} (hs₁ : s₁ = barS) (hs₂ : s₂ = barS) (hs₃ : s₃ = barS)
    {w₁ w₂ w₃ : BitVec 32} (hw₁ : w₁ = 1#32) (hw₂ : w₂ = 1#32) (hw₃ : w₃ = 2#32)
    {k : PUnit → Prog (TpuEff nD τ sig (Elt F) Λ₀ .tc) α} :
    iprop(recs X K ∗ ow c (oweAll c) ∗ dutyTok ER (barCell (prv c)) 0 true ∗ dutyTok ER (barCell (nxt c)) 0 false
        ∗ sAny false c 1 ∗ sAny true c 1 ∗ reached ER (rCell false c 1) 0 ∗ reached ER (rCell true c 1) 0
        ∗ cred (tallyAt (barCell c) 0 2) ∗ atPos ER (barCell c) 0 ∅ 0)
      ⊢ iprop(((ow c (owe c 0) ∗ atPos ER (barCell c) 1 ∅ 0 ∗ free c 0)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (Dev.tc n₁) s₁ w₁.toInt) fun _ => .op (.semSignal (Dev.tc n₂) s₂ w₂.toInt) fun _ => .op (.semWait s₃ w₃.toInt) k) Q) := by
  subst hn₁ hn₂ hs₁ hs₂ hs₃ hw₁ hw₂ hw₃
  iintro ⟨#HI, HO, Ht, Hf, H1, H2, Hr1, Hr2, Hc, Ha⟩ Hk
  ihave HO' := (ow_elim c _) $$ HO
  icases HO' with ⟨%W, HO⟩
  ihave #HI1 := (recs_inv X K (bar_mem (prv c))) $$ HI
  ihave #HI2 := (recs_inv X K (bar_mem (nxt c))) $$ HI
  ihave #HI3 := (recs_inv X K (bar_mem c)) $$ HI
  ihave #HR1 := (recs_reached X K (prv c)) $$ HI
  ihave #HR2 := (recs_reached X K (nxt c)) $$ HI
  iapply (Rounds.wp_signal 𝒱₀ ER (rd X) (c : Thread nD τ) none (dst := (prv c : Thread nD τ)) (sem := barS) (r := 0) (d := true) (κ := K (barCell (prv c)))
      (by rw [duties_bar]; exact Finset.mem_univ _) (amount_bar X (prv c) 0 true) 0 (owe c 0 + tallyAt (barCell (nxt c)) 0 1) (O₀ := oweAll c) rfl (W := W))
    $$ [HO Ht H1 H2 Hr1 Hr2]
  · isplitr; · iexact HI1
    isplitl [HO]; · iexact HO
    isplitl [Ht]; · iexact Ht
    isplitl
    · rw [payload_bar_t]; unfold free; rw [nxt_prv]
      isplitl [H1]; · iexact H1
      isplitl [H2]; · iexact H2
      isplitl [Hr1]; · iexact Hr1
      iexact Hr2
    · iexact HR1
  iintro HO
  iapply (Rounds.wp_signal 𝒱₀ ER (rd X) (c : Thread nD τ) none (dst := (nxt c : Thread nD τ)) (sem := barS) (r := 0) (d := false) (κ := K (barCell (nxt c)))
      (by rw [duties_bar]; exact Finset.mem_univ _) (amount_bar X (nxt c) 0 false) 0 (owe c 0) (O₀ := owe c 0 + tallyAt (barCell (nxt c)) 0 1) rfl (W := W))
    $$ [HO Hf]
  · isplitr; · iexact HI2
    isplitl [HO]; · iexact HO
    isplitl [Hf]; · iexact Hf
    isplitl
    · rw [payload_bar_f]; iempintro
    · iexact HR2
  iintro HO
  iapply (Rounds.wp_wait_rest_token 𝒱₀ ER (rd X) (c : Thread nD τ) none (κ := K (barCell c))
      (wpE_semWait_eq 𝒱₀ (c : Thread nD τ) none Set.univ) (Set.mem_univ _) 0 (O := owe c 0) (W := W) (R := 0) (m := 0) (T := ∅)
      ((Nat.zero_add _).trans (expect_bar X c).symm)) $$ [Hc HO Ha]
  · isplitr; · iexact HI3
    isplitl [Hc]; · iexact Hc
    isplitl [HO]; · iexact HO
    isplitr
    · iapply (levs_wait X K c (.reg barS) 0 1 (owe c 0) (by omega) (by rw [lv_bar]) (fun g j h => ⟨(owe_level h).1, by have := (owe_level h).2; omega⟩)) $$ HI
    iexact Ha
  iintro ⟨HO, Ha, -, Hpay⟩
  ihave Hpay := (rest_bar X c) $$ Hpay
  iapply Hk
  isplitl [HO]; · iapply (ow_intro c _ _) $$ HO
  isplitl [Ha]; · iexact Ha
  iexact Hpay

/-! ## A cell closed at the end -/

theorem bar_close : iprop(recs X K ∗ atPos ER (barCell c) 1 ∅ 0) ⊢ (iprop(|={Set.univ}=> semVal (barCell c) 0) : sProp 𝕄) := by
  iintro ⟨HI, Ha⟩
  ihave HI := (recs_inv X K (bar_mem c)) $$ HI
  iapply (cell_close ER (rd X) (Set.mem_univ (K (barCell c))) id (duties_bar_later X c)) $$ [HI Ha]
  isplitl [HI] <;> iassumption

theorem pos_close {g : GSem nD τ sig} {R : ℕ} (hg : g ∈ (barCells ∪ scCells : Finset (GSem nD τ sig))) (hR : ∀ r, R ≤ r → (rd (F := F) X).duties g r = ∅) :
    iprop(recs X K ∗ pos g R) ⊢ (iprop(|={Set.univ}=> semVal g 0) : sProp 𝕄) := by
  unfold pos
  iintro ⟨HI, Ha, -⟩
  ihave HI := (recs_inv X K hg) $$ HI
  iapply (cell_close ER (rd X) (Set.mem_univ (K g)) id hR) $$ [HI Ha]
  isplitl [HI] <;> iassumption

end Cert.RingProof

end
-- ==== Proof.Ring.Body.lean ====
/-
  The kernel's body on one device, from the barrier to the cells' return to zero.
-/
module

public import proofs.«01_k».proof.Proof.Ring.Trip
public import proofs.«01_k».proof.Proof.Ring.Fill
public import proofs.«01_k».proof.Proof.Ring.Bar

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (X : (l : Bool) → Dev nD → (sh l).Idx → Elt F .bf16)
variable (K : GSem nD τ sig → ℕ) (c : Dev nD)

/-! ## The kernel's body on one device -/

/-- What a device holds of the protocol at the start. -/
def proto (c : Dev nD) : sProp 𝕄 :=
  iprop(ow c (oweAll c) ∗ dutyTok ER (barCell (prv c)) 0 true ∗ dutyTok ER (barCell (nxt c)) 0 false ∗ cred (tallyAt (barCell c) 0 2)
    ∗ atPos ER (barCell c) 0 ∅ 0 ∗ pos (crCell c) 0 ∗ lane false c 0 ∗ lane true c 0
    ∗ bigSep (Finset.Ico 0 31) (fun i => iprop(toks false c i ∗ toks true c i)) ∗ bigSep (Finset.Ico 0 30) (fun i => crTok c i))

/-- Its inputs. -/
def ins (c : Dev nD) (x : FVec F S2x256x768 .bf16) (wq wk wv : FVec F S768x256 .bf16) (wo : FVec F S256x768 .bf16) (co si : FVec F S512x256 .f32)
    (pm : FVec F S256x256 .bf16) : sProp 𝕄 :=
  iprop(whole xM c x ∗ whole wqM c wq ∗ whole wkM c wk ∗ whole wvM c wv ∗ whole woM c wo ∗ whole coM c co ∗ whole siM c si ∗ whole pM c pm)

/-- Its scratch, at any contents. -/
def scr (c : Dev nD) : sProp 𝕄 :=
  iprop((∃ x, whole xfM c x) ∗ (∃ x, whole ctxM c x) ∗ (∃ x, whole accM c x) ∗ sAny false c 0 ∗ sAny false c 1 ∗ sAny true c 0 ∗ sAny true c 1)

/-- Its cells back at zero. -/
def idle (c : Dev nD) : sProp 𝕄 :=
  iprop(semVal (crCell c) 0 ∗ semVal (sCell false c 0) 0 ∗ semVal (sCell false c 1) 0 ∗ semVal (rCell false c 0) 0 ∗ semVal (rCell false c 1) 0
    ∗ semVal (sCell true c 0) 0 ∗ semVal (sCell true c 1) 0 ∗ semVal (rCell true c 0) 0 ∗ semVal (rCell true c 1) 0)

theorem proto_elim : proto c ⊢ (iprop(ow c (oweAll c) ∗ dutyTok ER (barCell (prv c)) 0 true ∗ dutyTok ER (barCell (nxt c)) 0 false ∗ cred (tallyAt (barCell c) 0 2)
    ∗ atPos ER (barCell c) 0 ∅ 0 ∗ pos (crCell c) 0 ∗ lane false c 0 ∗ lane true c 0
    ∗ bigSep (Finset.Ico 0 31) (fun i => iprop(toks false c i ∗ toks true c i)) ∗ bigSep (Finset.Ico 0 30) (fun i => crTok c i)) : sProp 𝕄) := by
  unfold proto; exact BI.Entails.refl _
theorem ins_elim (x : FVec F S2x256x768 .bf16) (wq wk wv : FVec F S768x256 .bf16) (wo : FVec F S256x768 .bf16) (co si : FVec F S512x256 .f32)
    (pm : FVec F S256x256 .bf16) : ins c x wq wk wv wo co si pm ⊢
    (iprop(whole xM c x ∗ whole wqM c wq ∗ whole wkM c wk ∗ whole wvM c wv ∗ whole woM c wo ∗ whole coM c co ∗ whole siM c si ∗ whole pM c pm) : sProp 𝕄) := by
  unfold ins; exact BI.Entails.refl _
theorem scr_elim : scr c ⊢ (iprop((∃ x, whole xfM c x) ∗ (∃ x, whole ctxM c x) ∗ (∃ x, whole accM c x)
    ∗ sAny false c 0 ∗ sAny false c 1 ∗ sAny true c 0 ∗ sAny true c 1) : sProp 𝕄) := by
  unfold scr; exact BI.Entails.refl _

theorem sAt_any (l : Bool) (s : Fin 2) (x : (sh l).Idx → Elt F .bf16) : sAt l c s x ⊢ (sAny l c s : sProp 𝕄) := by
  unfold sAt sAny
  iintro ⟨%f, -, H⟩
  iexists f
  iexact H
theorem sAny_open (l : Bool) (s : Fin 2) : sAny l c s ⊢ (iprop(∃ y, holds (buf l) c (at_ l s).set y) : sProp 𝕄) := by
  have h : sAny l c s ⊢ (iprop(∃ x, sAt l c s x) : sProp 𝕄) := by
    unfold sAt sAny
    iintro ⟨%f, H⟩
    iexists ((slot l s).view.read (Elt F) f)
    iexists f
    isplitr; · ipureintro; rfl
    iexact H
  refine h.trans ?_
  iintro ⟨%x, H⟩
  ihave H := (sAt_open c l s x) $$ H
  icases H with ⟨%y, -, H⟩
  iexists y
  iexact H

theorem lane_reached (l : Bool) : lane l c 0 ⊢ (iprop(lane l c 0 ∗ reached ER (rCell l c 1) 0) : sProp 𝕄) := by
  unfold lane pos
  iintro ⟨H1, H2, ⟨H3, #H⟩, H4⟩
  isplitl [H1 H2 H3 H4]
  · isplitl [H1]; · iexact H1
    isplitl [H2]; · iexact H2
    isplitl [H3]; · isplitl [H3]; · iexact H3
                    iexact H
    iexact H4
  iexact H

/-- A lane's four cells closed after the last hop. -/
theorem lane_close (l : Bool) : iprop(recs X K ∗ lane l c 31) ⊢
    (iprop(|={Set.univ}=> (semVal (sCell l c 0) 0 ∗ semVal (sCell l c 1) 0 ∗ semVal (rCell l c 0) 0 ∗ semVal (rCell l c 1) 0)) : sProp 𝕄) := by
  unfold lane
  iintro ⟨#HI, H1, H2, H3, H4⟩
  imod (pos_close X K (s_mem l c (par 31)) (duties_s_later X l c (par 31) (31 / 2) (by decide))) $$ [H1] with H1
  · isplitr; · iexact HI
    iexact H1
  imod (pos_close X K (s_mem l c (par (31 + 1))) (duties_s_later X l c (par (31 + 1)) ((31 + 1) / 2) (by decide))) $$ [H2] with H2
  · isplitr; · iexact HI
    iexact H2
  imod (pos_close X K (r_mem l c (par (31 + 1))) (duties_r_later X l c (par (31 + 1)) (31 / 2) (by decide))) $$ [H3] with H3
  · isplitr; · iexact HI
    iexact H3
  imod (pos_close X K (r_mem l c (par 31)) (duties_r_later X l c (par 31) ((31 + 1) / 2) (by decide))) $$ [H4] with H4
  · isplitr; · iexact HI
    iexact H4
  imodintro
  isplitl [H2]; · iexact H2
  isplitl [H1]; · iexact H1
  isplitl [H3]; · iexact H3
  iexact H4

theorem held_at (l : Bool) (n : ℕ) : held X l c n ⊢ (sAt l c (par n) (X l (prv^[n] c)) : sProp 𝕄) := by
  unfold held; exact BI.Entails.refl _
theorem mid_last : mid c 30 = 0 := by
  unfold mid; rw [if_neg (by omega), owe_end, add_zero]

theorem trip_at (xf : FVec F S512x768 .bf16) (pm : FVec F S256x256 .bf16) (co si : FVec F S512x256 .f32) (z : FVec F S512x768 .f32)
    (v5 v7 : BitVec 32) (v50 : FVec F S256x768 .bf16) (v63 : FVec F S512x256 .bf16) (v223 v224 : FVec F S256x64 .bf16) (cst : FVec F S256x256 .f32)
    (t : Fin k0_t1_loop.trips) (u : PUnit) :
    iprop(recs X K ∗ tripSt X c xf pm co si z t.val) ⊢
      wp frame (wpE (defs₀ (F := F)) 𝒱₀ (c : Thread nD τ) none) Set.univ
        (k0_t1_body xM (Memref.isWhole_whole _) wqM (Memref.isWhole_whole _) wkM (Memref.isWhole_whole _) wvM (Memref.isWhole_whole _)
          woM (Memref.isWhole_whole _) coM (Memref.isWhole_whole _) siM (Memref.isWhole_whole _) pM (Memref.isWhole_whole _) outM (Memref.isWhole_whole _)
          xfM (Memref.isWhole_whole _) ctxM (Memref.isWhole_whole _) accM (Memref.isWhole_whole _) (buf false) (Memref.isWhole_whole _)
          (buf true) (Memref.isWhole_whole _) cc0_scratch5 cc0_scratch6 cc0_scratch7 cc0_scratch8 cc0_scratch9 c v5 v7 v50 v63 v223 v224 cst t u)
        (fun _ => iprop(recs X K ∗ tripSt X c xf pm co si z (t.val + 1))) := by
  have h := trip_run X K c xf pm co si z v5 v7 v50 v63 v223 v224 cst t
  iintro ⟨#HI, HS⟩
  ihave HW := h $$ [HS]
  · isplitr; · iexact HI
    iexact HS
  iapply wp_wand $$ HW
  iintro %_ HS
  isplitr; · iexact HI
  iexact HS

set_option maxHeartbeats 2000000 in
theorem body_run (x : FVec F S2x256x768 .bf16) (wq wk wv : FVec F S768x256 .bf16) (wo : FVec F S256x768 .bf16) (co si : FVec F S512x256 .f32)
    (pm : FVec F S256x256 .bf16) (hq : X false c = three wq wk wv) (hw : X true c = wo) :
    iprop(recs X K ∗ proto c ∗ ins c x wq wk wv wo co si pm ∗ (∃ o, whole outM c o) ∗ scr c) ⊢
      wp frame (wpE (defs₀ (F := F)) 𝒱₀ (c : Thread nD τ) none) Set.univ
        (cc0_body xM (Memref.isWhole_whole _) wqM (Memref.isWhole_whole _) wkM (Memref.isWhole_whole _) wvM (Memref.isWhole_whole _)
          woM (Memref.isWhole_whole _) coM (Memref.isWhole_whole _) siM (Memref.isWhole_whole _) pM (Memref.isWhole_whole _) outM (Memref.isWhole_whole _)
          xfM (Memref.isWhole_whole _) ctxM (Memref.isWhole_whole _) accM (Memref.isWhole_whole _) (buf false) (Memref.isWhole_whole _)
          (buf true) (Memref.isWhole_whole _) cc0_scratch5 cc0_scratch6 cc0_scratch7 cc0_scratch8 cc0_scratch9)
        (fun _ => iprop(ins c x wq wk wv wo co si pm ∗ whole outM c (batchesOf (accAt X c (rowsOf x) pm co si k0_pay53 31)) ∗ scr c
          ∗ ow c 0 ∗ semVal (barCell c) 0 ∗ idle c)) := by
  rw [cc0_body_eq_skeleton]
  unfold cc0_body_skel
  simp only [k0_part28_eq_skeleton]
  unfold k0_part28_skel
  simp only [k0_part15_eq_skeleton, k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton, k0_part26_eq_skeleton,
    k0_part27_eq_skeleton]
  unfold k0_part15_skel k0_part16_skel k0_part17_skel k0_part18_skel k0_part19_skel k0_part20_skel k0_part21_skel k0_part22_skel k0_part23_skel
    k0_part24_skel k0_part25_skel k0_part26_skel k0_part27_skel
  simp only [semSignalWord, semWaitWord, Prog.lift, Prog.bind_op, Prog.bind_ret, Prog.pure_eq_ret, Prog.bind_assoc]
  rw [wp_deviceId]
  iintro ⟨#HI, HP, HN, ⟨%o, HY⟩, HS⟩
  ihave HP := (proto_elim c) $$ HP
  icases HP with ⟨HO, Ht, Hf, Hc, Hb, HC, HA, HB, HT, HR⟩
  ihave HN := (ins_elim c x wq wk wv wo co si pm) $$ HN
  icases HN with ⟨Hx, Hq, Hk, Hv, Hw, Hco, Hsi, Hpm⟩
  ihave HS := (scr_elim c) $$ HS
  icases HS with ⟨⟨%xf, Hxf⟩, HX, ⟨%a, Hac⟩, F0, F1, T0, T1⟩
  ihave HA := (lane_reached c false) $$ HA
  icases HA with ⟨HA, HrA⟩
  ihave HB := (lane_reached c true) $$ HB
  icases HB with ⟨HB, HrB⟩
  iapply (bar_run X K c (dev1 c) (dev2 c) rfl rfl rfl rfl rfl rfl) $$ [HO Ht Hf F1 T1 HrA HrB Hc Hb]
  · isplitr; · iexact HI
    isplitl [HO]; · iexact HO
    isplitl [Ht]; · iexact Ht
    isplitl [Hf]; · iexact Hf
    isplitl [F1]; · iexact F1
    isplitl [T1]; · iexact T1
    isplitl [HrA]; · iexact HrA
    isplitl [HrB]; · iexact HrB
    isplitl [Hc]; · iexact Hc
    iexact Hb
  iintro ⟨HO, Hb, HF⟩
  iapply (rows_fill c x xf (fun _ => by rfl) (fun _ => by rfl)) $$ [Hx Hxf]
  · isplitl [Hx] <;> iassumption
  iintro ⟨Hx, Hxf⟩
  ihave F0 := (sAny_open c false 0) $$ F0
  icases F0 with ⟨%y, F0⟩
  iapply (whole_load c (m := wqM) (x := wq) (off := ![0, 0]) (by decide)) $$ Hq
  iintro Hq
  iapply (fill_step c (m := buf false) (D₀ := (at_ false 0).set) (agree_empty (threes wq wk wv) y) (rQ 0 inb_S2x768x768_S1x768x256_0_0_0) (three_sub (by decide) _) (part_q wq wk wv)) $$ F0
  iintro %y1 %hy1 F0
  iapply (whole_load c (m := wkM) (x := wk) (off := ![0, 0]) (by decide)) $$ Hk
  iintro Hk
  iapply (fill_step c (m := buf false) (D₀ := (at_ false 0).set) hy1 (rQ 256 inb_S2x768x768_S1x768x256_0_0_256) (three_sub (by decide) _) (part_k wq wk wv)) $$ F0
  iintro %y2 %hy2 F0
  iapply (whole_load c (m := wvM) (x := wv) (off := ![0, 0]) (by decide)) $$ Hv
  iintro Hv
  iapply (fill_step c (m := buf false) (D₀ := (at_ false 0).set) hy2 (rQ 512 inb_S2x768x768_S1x768x256_0_0_512) (three_sub (by decide) _) (part_v wq wk wv)) $$ F0
  iintro %y3 %hy3 F0
  ihave F0 := (sAt_close c false 0 y3) $$ F0
  rw [three_of (threes_all _ _ hy3), ← hq]
  ihave T0 := (sAny_open c true 0) $$ T0
  icases T0 with ⟨%u, T0⟩
  iapply (whole_load c (m := woM) (x := wo) (off := ![0, 0]) (by decide)) $$ Hw
  iintro Hw
  iapply (holds_load c (m := buf true) (D := (at_ true 0).set) (r := at_ true 0) (x := u) (Finset.Subset.refl _)) $$ T0
  iintro T0
  iapply (holds_store c (m := buf true) (D := (at_ true 0).set) (r := at_ true 0) (x := u) (w := k0_pay52 wo) (Finset.Subset.refl _)) $$ T0
  iintro T0
  ihave T0 := (sAt_close c true 0 _) $$ T0
  rw [put_wo, ← hw]
  iapply (whole_load c (m := accM) (x := a) (off := ![0, 0]) (by decide)) $$ Hac
  iintro Hac
  iapply (whole_store c (m := accM) (x := a) (w := k0_pay53) (off := ![0, 0]) (by decide)) $$ Hac
  iintro Hac
  -- the first group
  ihave HS : hopSt X c 0 $$ [HA HB F0 T0 HO HT HR]
  · unfold hopSt held
    isplitl [HA]; · iexact HA
    isplitl [HB]; · iexact HB
    isplitl [F0]; · iexact F0
    isplitl [T0]; · iexact T0
    isplitl [HO]; · iexact HO
    isplitl [HT] <;> iassumption
  ihave HE : env c (rowsOf x) pm co si $$ [Hxf Hpm Hco Hsi]
  · unfold env
    isplitl [Hxf]; · iexact Hxf
    isplitl [Hpm]; · iexact Hpm
    isplitl [Hco] <;> iassumption
  iapply (group_at X c 0 0 rfl (rowsOf x) pm co si k0_pay53 rfl rfl (fun w u v1 v2 h1 h2 e1 e2 => by subst e1 e2; exact ⟨fun p hp => by subst hp; exact ⟨rfl, rfl, rfl, rfl, rfl, rfl, rfl, rfl⟩, fun _ _ => rfl⟩)) $$ [HS HE HX Hac]
  · isplitl [HS]; · iexact HS
    isplitl [HE]; · iexact HE
    isplitl [HX] <;> iassumption
  iintro %v1 %v2 ⟨HS, HE, HX, Hac⟩
  -- the loop
  ihave HI0 : iprop(recs X K ∗ tripSt X c (rowsOf x) pm co si k0_pay53 0) $$ [HS HE HX Hac HC HF]
  · isplitr; · iexact HI
    unfold tripSt
    isplitl [HS]; · iexact HS
    isplitl [HC HF]; · unfold gate; isplitl [HC] <;> iassumption
    isplitl [HE]; · iexact HE
    isplitl [HX]; · iexact HX
    iexact Hac
  iapply (Scf.wp_for_bind frame (wpE (defs₀ (F := F)) 𝒱₀ (c : Thread nD τ) none) Set.univ _ _ _ _ _ _
    (fun t _ => iprop(recs X K ∗ tripSt X c (rowsOf x) pm co si k0_pay53 t)) (trip_at X K c (rowsOf x) pm co si k0_pay53 _ _ _ _ _ _ _)) $$ HI0
  iintro %acc ⟨-, HS⟩
  rw [show Scf.trips k0_t1_loop.lb k0_t1_loop.ub k0_t1_loop.st = 15 from rfl]
  ihave HS := (tripSt_elim X c (rowsOf x) pm co si k0_pay53 15) $$ HS
  icases HS with ⟨HS, HG, HE, HX, Hac⟩
  iapply (gate_wait X K c 29 (by omega) rfl rfl) $$ [HS HG]
  · isplitr; · iexact HI
    isplitl [HS] <;> iassumption
  iintro ⟨HS, HG⟩
  -- the last hop
  iapply (hop_at X K c 30 0 1 rfl rfl (by omega) (dev9 c) (dev10 c)) $$ [HS HG]
  · isplitr; · iexact HI
    isplitl [HS] <;> iassumption
  iintro HS
  ihave HS := (aft_elim X c 30) $$ HS
  icases HS with ⟨HA, HB, F0, T0, F1, T1, HO, -, HC, -, -⟩
  ihave F1 := (held_at X c false 31) $$ F1
  ihave T1 := (held_at X c true 31) $$ T1
  -- the last group
  icases HX with ⟨%cx, HX⟩
  iapply (group_run c 1 (w := X false (prv^[31] c)) (u := X true (prv^[31] c)) (rowsOf x) pm co si cx (accAt X c (rowsOf x) pm co si k0_pay53 30) rfl rfl _ rfl (fun v1 v2 h1 h2 e1 e2 => by rw [← e1, ← e2]; exact ⟨⟨rfl, rfl, rfl, rfl, rfl, rfl, rfl, rfl⟩, fun _ _ => rfl⟩)) $$ [F1 T1 HE HX Hac]
  · isplitl [F1]; · iexact F1
    isplitl [T1]; · iexact T1
    isplitl [HE]; · iexact HE
    isplitl [HX] <;> iassumption
  iintro %v1' %v2' ⟨F1, T1, HE, HX, Hac⟩
  -- the result
  iapply (rows_out c (accAt X c (rowsOf x) pm co si k0_pay53 31) o (fun _ => by rfl) (fun _ => by rfl)) $$ [Hac HY]
  · isplitl [Hac]; · iexact Hac
    iexact HY
  iintro ⟨Hac, HY⟩
  -- the cells back at zero
  rw [wp_ret]
  imod (bar_close X K c) $$ [Hb] with Hb
  · isplitr; · iexact HI
    iexact Hb
  imod (pos_close X K (cr_mem c) (duties_cr_later X c)) $$ [HC] with HC
  · isplitr; · iexact HI
    iexact HC
  imod (lane_close X K c false) $$ [HA] with HA
  · isplitr; · iexact HI
    iexact HA
  imod (lane_close X K c true) $$ [HB] with HB
  · isplitr; · iexact HI
    iexact HB
  imodintro
  icases HA with ⟨A1, A2, A3, A4⟩
  icases HB with ⟨B1, B2, B3, B4⟩
  ihave HE := (env_elim c (rowsOf x) pm co si) $$ HE
  icases HE with ⟨Hxf, Hpm, Hco, Hsi⟩
  isplitl [Hx Hq Hk Hv Hw Hco Hsi Hpm]
  · unfold ins
    isplitl [Hx]; · iexact Hx
    isplitl [Hq]; · iexact Hq
    isplitl [Hk]; · iexact Hk
    isplitl [Hv]; · iexact Hv
    isplitl [Hw]; · iexact Hw
    isplitl [Hco]; · iexact Hco
    isplitl [Hsi] <;> iassumption
  isplitl [HY]; · iexact HY
  isplitl [Hxf HX Hac F0 T0 F1 T1]
  · unfold scr
    isplitl [Hxf]; · iexists (rowsOf x); iexact Hxf
    isplitl [HX]; · iexists (ctxOf (rowsOf x) pm co si (X false (prv^[31] c))); iexact HX
    isplitl [Hac]; · iexists (accAt X c (rowsOf x) pm co si k0_pay53 31); iexact Hac
    isplitl [F0]
    · ihave F0 := (held_at X c false 30) $$ F0
      iapply (sAt_any c false (par 30) _) $$ F0
    isplitl [F1]; · iapply (sAt_any c false 1 _) $$ F1
    isplitl [T0]
    · ihave T0 := (held_at X c true 30) $$ T0
      iapply (sAt_any c true (par 30) _) $$ T0
    iapply (sAt_any c true 1 _) $$ T1
  isplitl [HO]
  · rw [mid_last]; iexact HO
  isplitl [Hb]; · iexact Hb
  unfold idle
  isplitl [HC]; · iexact HC
  isplitl [A1]; · iexact A1
  isplitl [A2]; · iexact A2
  isplitl [A3]; · iexact A3
  isplitl [A4]; · iexact A4
  isplitl [B1]; · iexact B1
  isplitl [B2]; · iexact B2
  isplitl [B3] <;> iassumption

end Cert.RingProof

end
-- ==== Proof.Ring.Dat.lean ====
/-
  The region's proof data: what the windows bring, and the kernel's run as the region's body.
-/
module

public import proofs.«01_k».proof.Proof.Ring.Body
public import proofs.«01_k».proof.Proof.Gen.KernelIdeal.Frame

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ)

/-! ## What the windows bring, and what leaves -/

def xIn (c : Dev nD) : FVec F S2x256x768 .bf16 := iblk m c 0 t0_0
def wqIn (c : Dev nD) : FVec F S768x256 .bf16 := iblk m c 1 t0_0
def wkIn (c : Dev nD) : FVec F S768x256 .bf16 := iblk m c 2 t0_0
def wvIn (c : Dev nD) : FVec F S768x256 .bf16 := iblk m c 3 t0_0
def woIn (c : Dev nD) : FVec F S256x768 .bf16 := iblk m c 4 t0_0
def coIn (c : Dev nD) : FVec F S512x256 .f32 := iblk m c 5 t0_0
def siIn (c : Dev nD) : FVec F S512x256 .f32 := iblk m c 6 t0_0
def pmIn (c : Dev nD) : FVec F S256x256 .bf16 := iblk m c 7 t0_0

/-- What each device's lanes start at. -/
def Xs : (l : Bool) → Dev nD → (sh l).Idx → Elt F .bf16
  | false => fun c => three (wqIn m c) (wkIn m c) (wvIn m c)
  | true => fun c => woIn m c

/-- What a device writes out. -/
def res (c : Dev nD) : FVec F S2x256x768 .f32 :=
  batchesOf (accAt (Xs m) c (rowsOf (xIn m c)) (pmIn m c) (coIn m c) (siIn m c) k0_pay53 31)

/-- What a device holds of the protocol when the region's invariant starts, all but what it owes. -/
def ghost (c : Dev nD) : sProp 𝕄 :=
  iprop(dutyTok ER (barCell (prv c)) 0 true ∗ dutyTok ER (barCell (nxt c)) 0 false ∗ cred (tallyAt (barCell c) 0 2)
    ∗ atPos ER (barCell c) 0 ∅ 0 ∗ pos (crCell c) 0 ∗ lane false c 0 ∗ lane true c 0
    ∗ bigSep (Finset.Ico 0 31) (fun i => iprop(toks false c i ∗ toks true c i)) ∗ bigSep (Finset.Ico 0 30) (fun i => crTok c i))

theorem proto_of (c : Dev nD) : iprop(ow c (oweAll c) ∗ ghost c) ⊢ (proto c : sProp 𝕄) := by
  unfold ghost proto; exact BI.Entails.refl _

/-- The region's invariant: before its point, and after it. -/
def inv₀ (c : Dev nD) : sProp 𝕄 := iprop((∃ K, recs (Xs m) K ∗ ghost c) ∗ scr c ∗ ∃ r, prngReg c r)
def inv₁ (c : Dev nD) : sProp 𝕄 := iprop(semVal (barCell c) 0 ∗ idle c ∗ scr c ∗ ∃ r, prngReg c r)

def dat (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res m c
    | ⟨_ + 9, h⟩ => absurd h (Nat.not_lt.2 (Nat.le_add_left _ _))
  Φ t := if t.val = 0 then inv₀ m c else inv₁ c
  q _ := fullShare
  owed t := if t.val = 0 then oweAll c else 0

theorem owed_start (c : Dev nD) : (dat m c).owed 0 = oweAll c := by
  show (if ((0 : Fin (cfg0.N + 1)).val = 0) then oweAll c else 0) = oweAll c; exact if_pos rfl
theorem owed_first (c : Dev nD) : (dat m c).owed (Fin.castSucc t0_0) = oweAll c := by
  show (if (Fin.castSucc t0_0 : Fin (cfg0.N + 1)).val = 0 then oweAll c else 0) = oweAll c; exact if_pos rfl
theorem owed_end (c : Dev nD) : (dat m c).owed (Fin.last _) = 0 := by
  show (if (Fin.last cfg0.N).val = 0 then oweAll c else 0) = 0
  rw [Fin.val_last, if_neg (by rw [show cfg0.N = 1 from N_0]; decide)]

theorem owes_in (c : Dev nD) (t : Fin (cfg0.N + 1)) (O : CellTallies nD τ sig ℕ) (h : (dat m c).owed t = O) :
    ow c O ⊢ ((dat m c).owesAt 0 t : sProp 𝕄) := by
  unfold ow Dat.owesAt Pipeline.owesWithin Dat.bound
  rw [h, show (dat m c).recorded t = Set.univ from rfl]
  iintro ⟨%W, H⟩
  iexists W
  isplitr; · ipureintro; exact fun _ _ => Or.inl trivial
  iexact H
theorem owes_out (c : Dev nD) (t : Fin (cfg0.N + 1)) (O : CellTallies nD τ sig ℕ) (h : (dat m c).owed t = O) :
    ((dat m c).owesAt 0 t : sProp 𝕄) ⊢ ow c O := by
  unfold ow Dat.owesAt Pipeline.owesWithin
  rw [h]
  iintro ⟨%W, -, H⟩
  iexists W
  iexact H

/-! ## The staging buffers -/

theorem owns_in (c : Dev nD) {s : Shape} {e : EltTy} (b : Memref sig .tc .vmem s e) (x : s.Idx → Elt F e) :
    (owns (c : Thread nD τ) b fullShare x : sProp 𝕄) ⊢ whole b c x := by
  unfold owns whole holds
  iintro ⟨%f, %h, H⟩
  iexists f
  isplitr; · ipureintro; exact fun y _ => congrFun h y
  iexact H
theorem owns_out (c : Dev nD) {s : Shape} {e : EltTy} (b : Memref sig .tc .vmem s e) (x : s.Idx → Elt F e) :
    whole b c x ⊢ (owns (c : Thread nD τ) b fullShare x : sProp 𝕄) := by
  unfold owns whole holds
  iintro ⟨%f, %h, H⟩
  iexists f
  isplitr; · ipureintro; exact funext fun y => h y (Finset.mem_univ y)
  iexact H

/-! ## The body -/

theorem before_at (c : Dev nD) (w : Fin cfg0.W) (hf : (cfg0.win w).fetch t0_0 = true) (d) :
    (dat m c).before w t0_0 d = (dat m c).fetched w t0_0 d := by
  unfold Dat.before; rw [if_pos hf]

theorem came_0 (c : Dev nD) (d) : (owns (c : Thread nD τ) ((cfg0.win 0).stage (cfg0.slots t0_0 0)) fullShare ((dat m c).fetched 0 t0_0 d) : sProp 𝕄)
    ⊢ whole xM c (xIn m c) := owns_in c xM (xIn m c)
theorem went_0 (c : Dev nD) : whole xM c (xIn m c)
    ⊢ (owns (c : Thread nD τ) ((cfg0.win 0).stage (cfg0.slots t0_0 0)) fullShare ((dat m c).after 0 t0_0) : sProp 𝕄) := owns_out c xM (xIn m c)
theorem came_1 (c : Dev nD) (d) : (owns (c : Thread nD τ) ((cfg0.win 1).stage (cfg0.slots t0_0 1)) fullShare ((dat m c).fetched 1 t0_0 d) : sProp 𝕄)
    ⊢ whole wqM c (wqIn m c) := owns_in c wqM (wqIn m c)
theorem went_1 (c : Dev nD) : whole wqM c (wqIn m c)
    ⊢ (owns (c : Thread nD τ) ((cfg0.win 1).stage (cfg0.slots t0_0 1)) fullShare ((dat m c).after 1 t0_0) : sProp 𝕄) := owns_out c wqM (wqIn m c)
theorem came_2 (c : Dev nD) (d) : (owns (c : Thread nD τ) ((cfg0.win 2).stage (cfg0.slots t0_0 2)) fullShare ((dat m c).fetched 2 t0_0 d) : sProp 𝕄)
    ⊢ whole wkM c (wkIn m c) := owns_in c wkM (wkIn m c)
theorem went_2 (c : Dev nD) : whole wkM c (wkIn m c)
    ⊢ (owns (c : Thread nD τ) ((cfg0.win 2).stage (cfg0.slots t0_0 2)) fullShare ((dat m c).after 2 t0_0) : sProp 𝕄) := owns_out c wkM (wkIn m c)
theorem came_3 (c : Dev nD) (d) : (owns (c : Thread nD τ) ((cfg0.win 3).stage (cfg0.slots t0_0 3)) fullShare ((dat m c).fetched 3 t0_0 d) : sProp 𝕄)
    ⊢ whole wvM c (wvIn m c) := owns_in c wvM (wvIn m c)
theorem went_3 (c : Dev nD) : whole wvM c (wvIn m c)
    ⊢ (owns (c : Thread nD τ) ((cfg0.win 3).stage (cfg0.slots t0_0 3)) fullShare ((dat m c).after 3 t0_0) : sProp 𝕄) := owns_out c wvM (wvIn m c)
theorem came_4 (c : Dev nD) (d) : (owns (c : Thread nD τ) ((cfg0.win 4).stage (cfg0.slots t0_0 4)) fullShare ((dat m c).fetched 4 t0_0 d) : sProp 𝕄)
    ⊢ whole woM c (woIn m c) := owns_in c woM (woIn m c)
theorem went_4 (c : Dev nD) : whole woM c (woIn m c)
    ⊢ (owns (c : Thread nD τ) ((cfg0.win 4).stage (cfg0.slots t0_0 4)) fullShare ((dat m c).after 4 t0_0) : sProp 𝕄) := owns_out c woM (woIn m c)
theorem came_5 (c : Dev nD) (d) : (owns (c : Thread nD τ) ((cfg0.win 5).stage (cfg0.slots t0_0 5)) fullShare ((dat m c).fetched 5 t0_0 d) : sProp 𝕄)
    ⊢ whole coM c (coIn m c) := owns_in c coM (coIn m c)
theorem went_5 (c : Dev nD) : whole coM c (coIn m c)
    ⊢ (owns (c : Thread nD τ) ((cfg0.win 5).stage (cfg0.slots t0_0 5)) fullShare ((dat m c).after 5 t0_0) : sProp 𝕄) := owns_out c coM (coIn m c)
theorem came_6 (c : Dev nD) (d) : (owns (c : Thread nD τ) ((cfg0.win 6).stage (cfg0.slots t0_0 6)) fullShare ((dat m c).fetched 6 t0_0 d) : sProp 𝕄)
    ⊢ whole siM c (siIn m c) := owns_in c siM (siIn m c)
theorem went_6 (c : Dev nD) : whole siM c (siIn m c)
    ⊢ (owns (c : Thread nD τ) ((cfg0.win 6).stage (cfg0.slots t0_0 6)) fullShare ((dat m c).after 6 t0_0) : sProp 𝕄) := owns_out c siM (siIn m c)
theorem came_7 (c : Dev nD) (d) : (owns (c : Thread nD τ) ((cfg0.win 7).stage (cfg0.slots t0_0 7)) fullShare ((dat m c).fetched 7 t0_0 d) : sProp 𝕄)
    ⊢ whole pM c (pmIn m c) := owns_in c pM (pmIn m c)
theorem went_7 (c : Dev nD) : whole pM c (pmIn m c)
    ⊢ (owns (c : Thread nD τ) ((cfg0.win 7).stage (cfg0.slots t0_0 7)) fullShare ((dat m c).after 7 t0_0) : sProp 𝕄) := owns_out c pM (pmIn m c)
theorem came_8 (c : Dev nD) (d) : (owns (c : Thread nD τ) ((cfg0.win 8).stage (cfg0.slots t0_0 8)) fullShare ((dat m c).before 8 t0_0 d) : sProp 𝕄)
    ⊢ iprop(∃ o, whole outM c o) := by
  iintro H
  iexists ((dat m c).before 8 t0_0 d)
  iapply (owns_in c outM ((dat m c).before 8 t0_0 d)) $$ H
theorem went_8 (c : Dev nD) : whole outM c (res m c)
    ⊢ (owns (c : Thread nD τ) ((cfg0.win 8).stage (cfg0.slots t0_0 8)) fullShare ((dat m c).after 8 t0_0) : sProp 𝕄) := owns_out c outM (res m c)

theorem res_eq (c : Dev nD) : batchesOf (accAt (Xs m) c (rowsOf (xIn m c)) (pmIn m c) (coIn m c) (siIn m c) k0_pay53 31) = res m c := rfl

theorem body_ob (c : Dev nD) : BodyObligation (dat m c) defs₀ 𝒱₀ 0 Set.univ := fun t => by
  obtain rfl := fin_N0 t
  rw [bigSep_W0, bigSep_W0]
  rw [show (dat m c).Φ (Fin.castSucc t0_0) = inv₀ m c from rfl, show (dat m c).Φ (Fin.succ t0_0) = inv₁ c from rfl]
  unfold inv₀ inv₁
  iintro ⟨⟨⟨%K, #HI, HG⟩, HS, Hp⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_at m c 0 (fetch0_0 _), before_at m c 1 (fetch0_1 _), before_at m c 2 (fetch0_2 _), before_at m c 3 (fetch0_3 _), before_at m c 4 (fetch0_4 _),
    before_at m c 5 (fetch0_5 _), before_at m c 6 (fetch0_6 _), before_at m c 7 (fetch0_7 _)]
  ihave HO := (owes_out m c _ _ (owed_first m c)) $$ HO
  ihave H0 := (came_0 m c d0) $$ H0
  ihave H1 := (came_1 m c d1) $$ H1
  ihave H2 := (came_2 m c d2) $$ H2
  ihave H3 := (came_3 m c d3) $$ H3
  ihave H4 := (came_4 m c d4) $$ H4
  ihave H5 := (came_5 m c d5) $$ H5
  ihave H6 := (came_6 m c d6) $$ H6
  ihave H7 := (came_7 m c d7) $$ H7
  ihave H8 := (came_8 m c d8) $$ H8
  have h := body_run (Xs m) K c (xIn m c) (wqIn m c) (wkIn m c) (wvIn m c) (woIn m c) (coIn m c) (siIn m c) (pmIn m c) rfl rfl
  rw [res_eq] at h
  ihave HW := h $$ [HO HG H0 H1 H2 H3 H4 H5 H6 H7 H8 HS]
  · isplitr; · iexact HI
    isplitl [HO HG]
    · iapply (proto_of c); isplitl [HO] <;> iassumption
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6] <;> iassumption
    isplitl [H8]; · iexact H8
    iexact HS
  iapply wp_wand $$ HW
  iintro %_ ⟨HN, HY, HS, HO, Hb, Hi⟩
  ihave HN := (ins_elim c (xIn m c) (wqIn m c) (wkIn m c) (wvIn m c) (woIn m c) (coIn m c) (siIn m c) (pmIn m c)) $$ HN
  icases HN with ⟨H0, H1, H2, H3, H4, H5, H6, H7⟩
  isplitl [Hb Hi HS Hp]
  · isplitl [Hb]; · iexact Hb
    isplitl [Hi]; · iexact Hi
    isplitl [HS] <;> iassumption
  isplitl [HO]; · iapply (owes_in m c (Fin.succ t0_0) 0 (owed_end m c)) $$ HO
  isplitl [H0]; · iapply (went_0 m c) $$ H0
  isplitl [H1]; · iapply (went_1 m c) $$ H1
  isplitl [H2]; · iapply (went_2 m c) $$ H2
  isplitl [H3]; · iapply (went_3 m c) $$ H3
  isplitl [H4]; · iapply (went_4 m c) $$ H4
  isplitl [H5]; · iapply (went_5 m c) $$ H5
  isplitl [H6]; · iapply (went_6 m c) $$ H6
  isplitl [H7]; · iapply (went_7 m c) $$ H7
  iapply (went_8 m c) $$ HY

end Cert.RingProof

end
-- ==== Proof.Ring.Scratch.lean ====
/-
  The scratch buffers: two of them as their slots.
-/
module

public import proofs.«01_k».proof.Proof.Ring.Dat

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

/-! ## A scratch buffer as its two slots -/

theorem halves (l : Bool) : Disjoint (at_ l 0).set (at_ l 1).set ∧ (at_ l 0).set ∪ (at_ l 1).set = Finset.univ := by
  cases l
  all_goals
    constructor
    · rw [Finset.disjoint_left]
      intro y h1 h2
      have h1 := (Rect.mem_set_unit.1 h1) 0
      have h2 := (Rect.mem_set_unit.1 h2) 0
      have a : (y 0).val < 0 + 1 := h1.2
      have b : 1 ≤ (y 0).val := h2.1
      omega
    · ext y
      simp only [Finset.mem_union, Finset.mem_univ, iff_true]
      have h0 : (y 0).val < 2 := (y 0).isLt
      have h1 := (y 1).isLt
      have h2 := (y 2).isLt
      rcases Nat.lt_or_ge (y 0).val 1 with h | h
      · left
        refine Rect.mem_set_unit.2 fun a => ?_
        match a with
        | ⟨0, _⟩ => exact ⟨Nat.zero_le _, by show (y 0).val < 0 + 1; omega⟩
        | ⟨1, _⟩ => exact ⟨Nat.zero_le _, lt_of_lt_of_eq h1 (Nat.zero_add _).symm⟩
        | ⟨2, _⟩ => exact ⟨Nat.zero_le _, lt_of_lt_of_eq h2 (Nat.zero_add _).symm⟩
      · right
        refine Rect.mem_set_unit.2 fun a => ?_
        match a with
        | ⟨0, _⟩ => exact ⟨h, by show (y 0).val < 1 + 1; omega⟩
        | ⟨1, _⟩ => exact ⟨Nat.zero_le _, lt_of_lt_of_eq h1 (Nat.zero_add _).symm⟩
        | ⟨2, _⟩ => exact ⟨Nat.zero_le _, lt_of_lt_of_eq h2 (Nat.zero_add _).symm⟩

theorem holds_split (c : Dev nD) {s : Shape} {e : EltTy} (b : Memref sig .tc .vmem s e) {A B : Finset s.Idx} (hd : Disjoint A B) (x : s.Idx → Elt F e) :
    holds b c (A ∪ B) x ⊢ (iprop(holds b c A x ∗ holds b c B x) : sProp 𝕄) := by
  unfold holds
  iintro ⟨%f, %h, H⟩
  ihave H := (show (b.view.loc (c : Thread nD τ) ↦[b.view.setOn (A ∪ B)]{fullShare} f : sProp 𝕄) ⊢ iprop((b.view.loc (c : Thread nD τ) ↦[b.view.setOn A]{fullShare} f) ∗ (b.view.loc (c : Thread nD τ) ↦[b.view.setOn B]{fullShare} f)) from by
    rw [show b.view.setOn (A ∪ B) = b.view.setOn A ∪ b.view.setOn B from Finset.map_union _ _]
    exact (pointsTo_union ((Finset.disjoint_map _).mpr hd)).1) $$ H
  icases H with ⟨H1, H2⟩
  isplitl [H1]
  · iexists f
    isplitr; · ipureintro; exact fun y hy => h y (Finset.mem_union_left _ hy)
    iexact H1
  iexists f
  isplitr; · ipureintro; exact fun y hy => h y (Finset.mem_union_right _ hy)
  iexact H2

theorem holds_join (c : Dev nD) {s : Shape} {e : EltTy} (b : Memref sig .tc .vmem s e) {A B : Finset s.Idx} (hd : Disjoint A B) (x y : s.Idx → Elt F e) :
    (iprop(holds b c A x ∗ holds b c B y) : sProp 𝕄) ⊢ iprop(∃ z, holds b c (A ∪ B) z) := by
  unfold holds
  iintro ⟨⟨%f, -, H1⟩, ⟨%g, -, H2⟩⟩
  ihave H := (pointsTo_join (ℓ := b.view.loc (c : Thread nD τ)) (I := b.view.setOn A) (J := b.view.setOn B) (q := fullShare) (f := f) (g := g)
    ((Finset.disjoint_map _).mpr hd)) $$ [H1 H2]
  · isplitl [H1] <;> iassumption
  iexists (b.view.read (Elt F) ((b.view.setOn B).piecewise g f))
  iexists ((b.view.setOn B).piecewise g f)
  isplitr; · ipureintro; exact fun _ _ => rfl
  rw [show b.view.setOn (A ∪ B) = b.view.setOn A ∪ b.view.setOn B from Finset.map_union _ _]
  iexact H

theorem slots_split (c : Dev nD) (l : Bool) : (iprop(∃ y, whole (buf l) c y) : sProp 𝕄) ⊢ iprop(sAny l c 0 ∗ sAny l c 1) := by
  iintro ⟨%y, H⟩
  ihave H := (show whole (buf l) c y ⊢ (iprop(holds (buf l) c (at_ l 0).set y ∗ holds (buf l) c (at_ l 1).set y) : sProp 𝕄) from by
    unfold whole; rw [← (halves l).2]; exact holds_split c (buf l) (halves l).1 y) $$ H
  icases H with ⟨H0, H1⟩
  isplitl [H0]
  · ihave H0 := (sAt_close c l 0 y) $$ H0
    iapply (sAt_any c l 0 _) $$ H0
  ihave H1 := (sAt_close c l 1 y) $$ H1
  iapply (sAt_any c l 1 _) $$ H1

theorem slots_join (c : Dev nD) (l : Bool) : (iprop(sAny l c 0 ∗ sAny l c 1) : sProp 𝕄) ⊢ iprop(∃ y, whole (buf l) c y) := by
  iintro ⟨H0, H1⟩
  ihave H0 := (sAny_open c l 0) $$ H0
  ihave H1 := (sAny_open c l 1) $$ H1
  icases H0 with ⟨%y0, H0⟩
  icases H1 with ⟨%y1, H1⟩
  have h := holds_join c (buf l) (halves l).1 y0 y1
  rw [(halves l).2] at h
  iapply h
  isplitl [H0] <;> iassumption

/-! ## The scoped buffers no window stages -/

theorem buf_in (c : Dev nD) (b : Ref sig .tc) : (iprop(∃ f : Buf (Elt F) ((c : Thread nD τ).loc b), ((c : Thread nD τ).loc b) ↦{fullShare} f) : sProp 𝕄)
    ⊢ iprop(∃ x, owns (c : Thread nD τ) (Memref.whole b) fullShare x) := by
  simp only [owns_whole_eq]
  iintro ⟨%f, H⟩
  iexists f
  iexists f
  isplitr; · ipureintro; rfl
  iexact H

theorem buf_out (c : Dev nD) (b : Ref sig .tc) : (iprop(∃ x, owns (c : Thread nD τ) (Memref.whole b) fullShare x) : sProp 𝕄)
    ⊢ iprop(∃ f : Buf (Elt F) ((c : Thread nD τ).loc b), ((c : Thread nD τ).loc b) ↦{fullShare} f) := by
  simp only [owns_whole_eq]
  iintro ⟨%x, %f, -, H⟩
  iexists f
  iexact H

theorem any_in (c : Dev nD) {s : Shape} {e : EltTy} (b : Memref sig .tc .vmem s e) :
    (iprop(∃ x, owns (c : Thread nD τ) b fullShare x) : sProp 𝕄) ⊢ iprop(∃ x, whole b c x) := by
  iintro ⟨%x, H⟩
  iexists x
  iapply (owns_in c b x) $$ H

theorem any_out (c : Dev nD) {s : Shape} {e : EltTy} (b : Memref sig .tc .vmem s e) :
    (iprop(∃ x, whole b c x) : sProp 𝕄) ⊢ iprop(∃ x, owns (c : Thread nD τ) b fullShare x) := by
  iintro ⟨%x, H⟩
  iexists x
  iapply (owns_out c b x) $$ H

theorem rest_in (c : Dev nD) : (Pipeline.scopedRest (Ix := ℕ) (Name := ℕ) (U := UU) (Lvl := ℕ) (Val := Elt F) spec0 c : sProp 𝕄) ⊢ scr c := by
  rw [scopedRest0_eq]
  unfold scr
  exact BI.sep_mono ((buf_in c cc0_scratch0).trans (any_in c xfM)) (BI.sep_mono ((buf_in c cc0_scratch1).trans (any_in c ctxM))
    (BI.sep_mono ((buf_in c cc0_scratch2).trans (any_in c accM))
      ((BI.sep_mono (((buf_in c cc0_scratch3).trans (any_in c (buf false))).trans (slots_split c false))
        (((buf_in c cc0_scratch4).trans (any_in c (buf true))).trans (slots_split c true))).trans (Idealize.SL.BI.sep_assoc))))

theorem rest_out (c : Dev nD) : scr c ⊢ (Pipeline.scopedRest (Ix := ℕ) (Name := ℕ) (U := UU) (Lvl := ℕ) (Val := Elt F) spec0 c : sProp 𝕄) := by
  rw [scopedRest0_eq]
  unfold scr
  exact BI.sep_mono ((any_out c xfM).trans (buf_out c cc0_scratch0)) (BI.sep_mono ((any_out c ctxM).trans (buf_out c cc0_scratch1))
    (BI.sep_mono ((any_out c accM).trans (buf_out c cc0_scratch2))
      ((Idealize.SL.BI.sep_assoc').trans (BI.sep_mono ((slots_join c false).trans ((any_out c (buf false)).trans (buf_out c cc0_scratch3)))
        ((slots_join c true).trans ((any_out c (buf true)).trans (buf_out c cc0_scratch4)))))))

end Cert.RingProof

end
-- ==== Proof.Ring.Reg.lean ====
/-
  The region: what enters it, what leaves it, and its record.
-/
module

public import proofs.«01_k».proof.Proof.Ring.Scratch
public import Idealize.ShloMosaic.Lib.Pipeline.RegionTalk

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ)

/-! ## What a device keeps from the launch to the region -/

/-- The device's cells still shut: the right to open each. -/
def shut (c : Dev nD) : sProp 𝕄 := bigSep Finset.univ fun k : Fin 9 => openTok ER ((c : Thread nD τ), osem k)

def dormant (c : Dev nD) : sProp 𝕄 :=
  iprop(dutyTok ER (barCell (prv c)) 0 true ∗ dutyTok ER (barCell (nxt c)) 0 false ∗ cred (tallyAt (barCell c) 0 2)
    ∗ atPos ER (barCell c) 0 ∅ 0 ∗ shut c
    ∗ bigSep (Finset.Ico 0 31) (fun i => iprop(toks false c i ∗ toks true c i)) ∗ bigSep (Finset.Ico 0 30) (fun i => crTok c i))

theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem idle_eq (c : Dev nD) : (Pipeline.ownSems0 osem c : sProp 𝕄) = idle c := fin9 fun k : Fin 9 => (semVal ((c : Thread nD τ), osem k) 0 : sProp 𝕄)

theorem open_one (X : (l : Bool) → Dev nD → (sh l).Idx → Elt F .bf16) (K : GSem nD τ sig → ℕ) (c : Dev nD) (k : Fin 9) :
    iprop(recs X K ∗ (openTok ER ((c : Thread nD τ), osem k) ∗ semVal ((c : Thread nD τ), osem k) 0))
      ⊢ (|={Set.univ}=> pos ((c : Thread nD τ), osem k) 0 : sProp 𝕄) := by
  iintro ⟨#HR, Ho, Hs⟩
  ihave #HI := (recs_inv X K (sc_mem c k)) $$ HR
  imod (Rounds.cell_open ER (rd X) (g := ((c : Thread nD τ), osem k)) (Set.mem_univ (K ((c : Thread nD τ), osem k)))) $$ [Ho Hs] with ⟨Ha, Hr⟩
  · isplitr; · iexact HI
    isplitl [Ho] <;> iassumption
  imodintro
  unfold pos
  isplitl [Ha] <;> iassumption

theorem open_all (X : (l : Bool) → Dev nD → (sh l).Idx → Elt F .bf16) (K : GSem nD τ sig → ℕ) (c : Dev nD) :
    iprop(recs X K ∗ (shut c ∗ Pipeline.ownSems0 osem c))
      ⊢ (|={Set.univ}=> (bigSep Finset.univ fun k : Fin 9 => pos ((c : Thread nD τ), osem k) 0) : sProp 𝕄) := by
  have h : iprop(recs X K ∗ (shut c ∗ Pipeline.ownSems0 osem c))
      ⊢ (bigSep Finset.univ fun k : Fin 9 => iprop(|={Set.univ}=> pos ((c : Thread nD τ), osem k) 0) : sProp 𝕄) := by
   unfold shut Pipeline.ownSems0
   iintro ⟨HR, H1, H2⟩
   iapply (bigSep_with_persistent (R := recs X K)
    (Φ := fun k : Fin 9 => (iprop(openTok ER ((c : Thread nD τ), osem k) ∗ semVal ((c : Thread nD τ), osem k) 0) : sProp 𝕄)) fun k _ => open_one X K c k)
   isplitl [HR]; · iexact HR
   iapply (Entails.of_eq (bigSep_sep' Finset.univ (fun k : Fin 9 => (openTok ER ((c : Thread nD τ), osem k) : sProp 𝕄)) (fun k : Fin 9 => (semVal ((c : Thread nD τ), osem k) 0 : sProp 𝕄))).symm)
   isplitl [H1] <;> iassumption
  exact h.trans (bigSep_fupd Finset.univ fun k : Fin 9 => (pos ((c : Thread nD τ), osem k) 0 : sProp 𝕄))

theorem lanes_of (c : Dev nD) : (bigSep Finset.univ fun k : Fin 9 => (pos ((c : Thread nD τ), osem k) 0 : sProp 𝕄))
    ⊢ iprop(pos (crCell c) 0 ∗ lane false c 0 ∗ lane true c 0) := by
  rw [fin9]
  show iprop(pos (crCell c) 0 ∗ pos (sCell false c (par 0)) 0 ∗ pos (sCell false c (par 1)) 0 ∗ pos (rCell false c (par 0)) 0 ∗ pos (rCell false c (par 1)) 0
    ∗ pos (sCell true c (par 0)) 0 ∗ pos (sCell true c (par 1)) 0 ∗ pos (rCell true c (par 0)) 0 ∗ pos (rCell true c (par 1)) 0) ⊢
    (iprop(pos (crCell c) 0 ∗ (pos (sCell false c (par 0)) 0 ∗ pos (sCell false c (par 1)) 0 ∗ pos (rCell false c (par 1)) 0 ∗ pos (rCell false c (par 0)) 0)
      ∗ (pos (sCell true c (par 0)) 0 ∗ pos (sCell true c (par 1)) 0 ∗ pos (rCell true c (par 1)) 0 ∗ pos (rCell true c (par 0)) 0)) : sProp 𝕄)
  iintro ⟨H0, H1, H2, H3, H4, H5, H6, H7, H8⟩
  isplitl [H0]; · iexact H0
  isplitl [H1 H2 H3 H4]
  · isplitl [H1]; · iexact H1
    isplitl [H2]; · iexact H2
    isplitl [H4] <;> iassumption
  isplitl [H5]; · iexact H5
  isplitl [H6]; · iexact H6
  isplitl [H8] <;> iassumption

def Tk (c : Dev nD) : sProp 𝕄 := iprop(∃ K, recs (Xs m) K ∗ dormant c)
def Xk (c : Dev nD) : sProp 𝕄 := iprop(∃ K, recs (Xs m) K ∗ ghost c)
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk Xk dormant
  iintro ⟨⟨%K, #HR, H1, H2, H3, H4, Hs, H5, H6⟩, Ho, -⟩
  imod (open_all (Xs m) K c) $$ [Hs Ho] with H
  · isplitr; · iexact HR
    isplitl [Hs] <;> iassumption
  imodintro
  ihave H := (lanes_of c) $$ H
  icases H with ⟨H7, H8, H9⟩
  iexists K
  isplitr; · iexact HR
  unfold ghost
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H5] <;> iassumption

/-! ## The arrays -/

def W (c : Dev nD) : Valuation τ sig (Elt F) := StableHlo.after hostOps0 (fun b => m (c, b))
def W' (c : Dev nD) : Valuation τ sig (Elt F) := Function.update (W m c) (Proc.devRef .tc main_v32) ((dat m c).arrAt 8 cfg0.N)

theorem held_none (c : Dev nD) (V : Valuation τ sig (Elt F)) : (StableHlo.held (c.tc : Thread nD τ) ∅ V : sProp 𝕄) = BI.emp := by
  unfold StableHlo.held; exact BI.bigSep_empty

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem hW (c : Dev nD) (w : Fin 9) : (dat m c).arrAt w 0 = W m c (Proc.devRef .tc (Pipeline.arrRef spec0 w)) := rfl

theorem W'_ne (c : Dev nD) (b : Ref sig .tc) (h : b ≠ main_v32) : W' m c (Proc.devRef .tc b) = W m c (Proc.devRef .tc b) := by
  unfold W'
  exact Function.update_of_ne (StableHlo.devRef_ne_of_ne h) _ _

theorem ins_ne : ∀ w : Fin 9, w ≠ 8 → (cfg0.win w).isOut = false ∧ Pipeline.arrRef spec0 w ≠ main_v32 := by decide

theorem hW' (c : Dev nD) (w : Fin 9) : (dat m c).arrAt w cfg0.N = W' m c (Proc.devRef .tc (Pipeline.arrRef spec0 w)) := by
  by_cases hw : w = 8
  · subst hw
    unfold W'
    exact (Function.update_self (Proc.devRef .tc main_v32) ((dat m c).arrAt 8 cfg0.N) (W m c)).symm
  · exact ((dat m c).arrAt_in w (ins_ne w hw).1 _).trans (W'_ne m c _ (ins_ne w hw).2).symm

theorem shares (c : Dev nD) (w : Fin 9) : (dat m c).share w = fullShare := by
  fin_cases w <;> rfl

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage (c : Dev nD) (w : Fin 9) (s : Fin (cfg0.win w).nbuf) : lv ((c : Thread nD τ), .dma ((cfg0.win w).sem s)) 0 = 0 := by
  show (if 9 ≤ ((cfg0.win w).sem s).val ∧ 2 ≤ (((cfg0.win w).sem s).val - 9) % 4 then 2 * 0 + 2 else 0) = 0
  refine if_neg ?_
  revert s; revert w
  decide

theorem oweAll_level {c : Dev nD} {g : GSem nD τ sig} {i : ℕ} (h : 0 < oweAll c g i) : i ∈ L g ∧ 0 < lv g i := by
  unfold oweAll at h
  rw [Pi.add_apply, Finsupp.add_apply, Pi.add_apply, Finsupp.add_apply] at h
  rcases Nat.add_pos_iff_pos_or_pos.mp h with h | h
  · rcases Nat.add_pos_iff_pos_or_pos.mp h with h | h
    · exact ⟨(owe_level h).1, lt_of_le_of_lt (Nat.zero_le _) (owe_level h).2⟩
    · obtain ⟨rfl, rfl⟩ := tallyAt_pos h
      exact ⟨by rw [L_tc]; decide, by rw [lv_bar]; decide⟩
  · obtain ⟨rfl, rfl⟩ := tallyAt_pos h
    exact ⟨by rw [L_tc]; decide, by rw [lv_bar]; decide⟩

theorem cut (c : Dev nD) (t : Fin (cfg0.N + 1)) (g : GSem nD τ sig) (i : ℕ) (h : 0 < (dat m c).owed t g i) : i ∈ L g ∧ (0 : ℕ) < lv g i := by
  have e : (dat m c).owed t = if t.val = 0 then oweAll c else 0 := rfl
  rw [e] at h
  split at h
  · exact oweAll_level h
  · exact absurd h (Nat.lt_irrefl 0)

theorem hin (c : Dev nD) : iprop(Pipeline.scopedRest spec0 c ∗ (∃ r, prngReg c r) ∗ StableHlo.held (c.tc : Thread nD τ) ∅ (W m c) ∗ Xk m c)
    ⊢ ((dat m c).Φ 0 : sProp 𝕄) := by
  rw [show (dat m c).Φ 0 = inv₀ m c from rfl]
  unfold inv₀ Xk
  iintro ⟨Hs, Hp, -, HX⟩
  isplitl [HX]; · iexact HX
  isplitl [Hs]; · iapply (rest_in c) $$ Hs
  iexact Hp

theorem hout (c : Dev nD) : ((dat m c).Φ (Fin.last cfg0.N) : sProp 𝕄)
    ⊢ iprop(Pipeline.scopedRest spec0 c ∗ (∃ r, prngReg c r) ∗ StableHlo.held (c.tc : Thread nD τ) ∅ (W' m c) ∗ Pipeline.ownSems0 osem c ∗ Yk c) := by
  rw [show (dat m c).Φ (Fin.last cfg0.N) = inv₁ c from rfl, held_none, idle_eq]
  unfold inv₁ Yk
  iintro ⟨Hb, Hi, Hs, Hp⟩
  isplitl [Hs]; · iapply (rest_out c) $$ Hs
  isplitl [Hp]; · iexact Hp
  isplitr; · iempintro
  isplitl [Hi] <;> iassumption

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

set_option backward.isDefEq.respectTransparency.types false in
def reg : ℝ𝕊 0 :=
  Pipeline.RegionSeg.ofTalk (pcfgs (F := F)) adm (pdats m) 0 defs₀ 𝒱₀ L lv 0 osem (by decide : Pipeline.OwnSemFacts spec0 osem)
    ∅ ∅ (Finset.Subset.refl _) kitP rfl (fun c => (body_ob m c).loose)
    (fun _ => 0) oweAll (fun c => (owed_start m c).trans (zero_add _).symm) (owed_end m) (fun _ => rfl) (shares m)
    (W m) (W' m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c _ _ => by rw [L_tc]; exact Finset.mem_range.mpr (by decide), fun c w s => le_of_eq (lv_stage c w s), fun c t g i h => cut m c t g i h⟩
    (fun _ => iprop(emp))
    (hW m) (hW' m)

end Cert.RingProof

end
-- ==== Proof.Ring.Deal.lean ====
/-
  What the launch deals each device: the credits owed to it and the tokens of the duties it pays.
-/
module

public import proofs.«01_k».proof.Proof.Ring.Reg

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The credits -/

theorem launch_sum {S : Finset ℕ} (T : ℕ → Dev nD → CellTallies nD τ sig ℕ) (c : Dev nD) :
    (Pipeline.launchCred (fun d => ∑ k ∈ S, T k d) c : sProp 𝕄) = bigSep S fun k => Pipeline.launchCred (T k) c := by
  induction S using Finset.induction_on with
  | empty => simp only [Finset.sum_empty]; rw [Pipeline.launchCred_zero, BI.bigSep_empty]; rfl
  | insert k S hk ih =>
    simp only [Finset.sum_insert hk]
    rw [Pipeline.launchCred_add, BI.bigSep_insert hk, ih]; rfl

theorem launch_one (e : Dev nD ≃ Dev nD) (sm : SemLoc sig) (k n : ℕ) (c : Dev nD) :
    (Pipeline.launchCred (fun d => tallyAt (((e d : Dev nD) : Thread nD τ), sm) k n) c : sProp 𝕄) ⊢ cred (tallyAt ((c : Thread nD τ), sm) k n) := by
  have h : tallyOn ((c : Thread nD τ), sm) (launchCredit (Pipeline.owing fun d => tallyAt (((e d : Dev nD) : Thread nD τ), sm) k n) 0 ((c : Thread nD τ), sm))
      = (tallyAt ((c : Thread nD τ), sm) k n : CellTallies nD τ sig ℕ) := by
    unfold tallyAt
    refine congrArg _ (Finsupp.ext fun i => ?_)
    rw [Pipeline.launchCredit_owing, ← Equiv.sum_comp e.symm]
    rw [Fintype.sum_eq_single c]
    · rw [Equiv.apply_symm_apply, tallyOn_self]
    · intro d hd
      rw [Equiv.apply_symm_apply, tallyOn_ne (fun h => hd (congrArg (fun g : GSem nD τ sig => g.1.1) h).symm)]; rfl
  rw [← h]
  exact Pipeline.launchCred_elim _ c sm

theorem launch_cr (k : ℕ) (c : Dev nD) :
    (Pipeline.launchCred (fun d => if k < 30 then tallyAt (crCell (prv d)) k 1 else 0) c : sProp 𝕄) ⊢ if k < 30 then cred (tallyAt (crCell c) k 1) else iprop(emp) := by
  split
  · exact launch_one ring.symm (.reg crS) k 1 c
  · rw [Pipeline.launchCred_zero]

theorem launch_due (k : ℕ) (c : Dev nD) : (Pipeline.launchCred (fun d => due d k) c : sProp 𝕄)
    ⊢ iprop((if k < 30 then cred (tallyAt (crCell c) k 1) else iprop(emp)) ∗ (cred (tallyAt (rCell true c (par (k + 1))) k (N true))
      ∗ cred (tallyAt (rCell false c (par (k + 1))) k (N false)))) := by
  unfold due
  rw [Pipeline.launchCred_add, Pipeline.launchCred_add]
  exact (Idealize.SL.BI.sep_assoc).trans (BI.sep_mono (launch_cr k c) (BI.sep_mono (launch_one ring (.dma (rS true (par (k + 1)))) k (N true) c)
    (launch_one ring (.dma (rS false (par (k + 1)))) k (N false) c)))

theorem launch_bar_nxt (c : Dev nD) : (Pipeline.launchCred (fun d => tallyAt (barCell (nxt d)) 0 1) c : sProp 𝕄) ⊢ cred (tallyAt (barCell c) 0 1) :=
  launch_one ring (.reg barS) 0 1 c
theorem launch_bar_prv (c : Dev nD) : (Pipeline.launchCred (fun d => tallyAt (barCell (prv d)) 0 1) c : sProp 𝕄) ⊢ cred (tallyAt (barCell c) 0 1) :=
  launch_one ring.symm (.reg barS) 0 1 c

/-- The launch's credits of device `c`. -/
def creds (c : Dev nD) : sProp 𝕄 :=
  iprop(cred (tallyAt (barCell c) 0 2) ∗ bigSep (Finset.Ico 0 31) (fun k => iprop(cred (tallyAt (rCell true c (par (k + 1))) k (N true))
      ∗ cred (tallyAt (rCell false c (par (k + 1))) k (N false))))
    ∗ bigSep (Finset.Ico 0 30) fun k => cred (tallyAt (crCell c) k 1))

theorem creds_cr (c : Dev nD) : bigSep (Finset.Ico 0 31) (fun k => (if k < 30 then cred (tallyAt (crCell c) k 1) else iprop(emp) : sProp 𝕄))
    ⊢ bigSep (Finset.Ico 0 30) fun k => cred (tallyAt (crCell c) k 1) := by
  refine (BI.bigSep_subset (t := Finset.Ico 0 30) (Finset.Ico_subset_Ico_right (by decide))).trans (bigSep_mono fun k hk => ?_)
  rw [if_pos (Finset.mem_Ico.mp hk).2]
  exact BI.Entails.refl _

theorem creds_due (c : Dev nD) : (Pipeline.launchCred (fun d => owe d 0) c : sProp 𝕄)
    ⊢ iprop(bigSep (Finset.Ico 0 31) (fun k => iprop(cred (tallyAt (rCell true c (par (k + 1))) k (N true))
      ∗ cred (tallyAt (rCell false c (par (k + 1))) k (N false))))
    ∗ bigSep (Finset.Ico 0 30) fun k => cred (tallyAt (crCell c) k 1)) := by
  unfold owe
  rw [launch_sum]
  have h : (bigSep (Finset.Ico 0 31) fun k => (Pipeline.launchCred (fun d => due d k) c : sProp 𝕄))
      ⊢ iprop((bigSep (Finset.Ico 0 31) fun k => (if k < 30 then cred (tallyAt (crCell c) k 1) else iprop(emp)))
        ∗ bigSep (Finset.Ico 0 31) fun k => iprop(cred (tallyAt (rCell true c (par (k + 1))) k (N true)) ∗ cred (tallyAt (rCell false c (par (k + 1))) k (N false)))) :=
    (bigSep_mono fun k _ => launch_due (F := F) k c).trans (Entails.of_eq (bigSep_sep' _ _ _))
  iintro H
  ihave H := h $$ H
  icases H with ⟨H1, H2⟩
  isplitl [H2]; · iexact H2
  iapply (creds_cr c) $$ H1

theorem creds_of (c : Dev nD) : (Pipeline.launchCred oweAll c : sProp 𝕄) ⊢ creds c := by
  have e : (oweAll : Dev nD → CellTallies nD τ sig ℕ) = fun d => (fun d => owe d 0 + tallyAt (barCell (nxt d)) 0 1) d + tallyAt (barCell (prv d)) 0 1 := rfl
  rw [e, Pipeline.launchCred_add, Pipeline.launchCred_add]
  unfold creds
  iintro ⟨⟨H1, H2⟩, H3⟩
  ihave H1 := (creds_due c) $$ H1
  icases H1 with ⟨H1, H4⟩
  ihave H2 := (launch_bar_nxt c) $$ H2
  ihave H3 := (launch_bar_prv c) $$ H3
  isplitl [H2 H3]
  · rw [show (tallyAt (barCell c) 0 2 : CellTallies nD τ sig ℕ) = tallyAt (barCell c) 0 1 + tallyAt (barCell c) 0 1 from (tallyAt_add (barCell c) 0 1 1).symm]
    iapply (cred_add _ _).2
    isplitl [H2] <;> iassumption
  isplitl [H1] <;> iassumption

/-! ## The tokens -/

/-- What one device pays: the two barrier signals, the send and receive duty of each lane in each hop, the credits. -/
abbrev Job : Type := Bool ⊕ ((Fin 31 × (Bool × Bool)) ⊕ Fin 30)

def jobSem : Job → SemLoc sig
  | .inl _ => .reg barS
  | .inr (.inl (n, l, true)) => .dma (sS l (par n.val))
  | .inr (.inl (n, l, false)) => .dma (rS l (par (n.val + 1)))
  | .inr (.inr _) => .reg crS
def jobRound : Job → ℕ
  | .inl _ => 0
  | .inr (.inl (n, _, _)) => n.val / 2
  | .inr (.inr n) => n.val
def jobDuty : Job → Bool
  | .inl b => b
  | .inr _ => false
/-- Whose cell device `c` pays to. -/
def jobHome : Job → Dev nD ≃ Dev nD
  | .inl true => ring.symm
  | .inl false => ring
  | .inr (.inl (_, _, true)) => Equiv.refl _
  | .inr (.inl (_, _, false)) => ring
  | .inr (.inr _) => ring.symm

set_option maxRecDepth 100000 in
theorem job_inj : ∀ j j' : Job, jobSem j = jobSem j' → jobRound j = jobRound j' → jobDuty j = jobDuty j' → j = j' := by
  decide +kernel

theorem pay_inj : Function.Injective fun cj : Dev nD × Job => ((((jobHome cj.2 cj.1 : Dev nD) : Thread nD τ), jobSem cj.2), jobRound cj.2, jobDuty cj.2) := by
  rintro ⟨c, j⟩ ⟨c', j'⟩ h
  obtain rfl := job_inj j j' (congrArg (fun t : GSem nD τ sig × ℕ × Bool => t.1.2) h) (congrArg (fun t : GSem nD τ sig × ℕ × Bool => t.2.1) h)
    (congrArg (fun t : GSem nD τ sig × ℕ × Bool => t.2.2) h)
  exact congrArg (fun d => (d, j)) ((jobHome j).injective (congrArg (fun t : GSem nD τ sig × ℕ × Bool => t.1.1.1) h))

set_option backward.proofsInPublic true in
def pays : Finset (GSem nD τ sig × ℕ × Bool) := Finset.univ.map ⟨_, pay_inj⟩

/-- The tokens of device `c`'s duties. -/
def duties (c : Dev nD) : sProp 𝕄 :=
  iprop((dutyTok ER (barCell (prv c)) 0 true ∗ dutyTok ER (barCell (nxt c)) 0 false)
    ∗ (bigSep (Finset.Ico 0 31) (fun n => iprop(dutyTok ER (sCell true c (par n)) (n / 2) false ∗ dutyTok ER (rCell true (nxt c) (par (n + 1))) (n / 2) false
        ∗ dutyTok ER (sCell false c (par n)) (n / 2) false ∗ dutyTok ER (rCell false (nxt c) (par (n + 1))) (n / 2) false))
      ∗ bigSep (Finset.Ico 0 30) fun n => dutyTok ER (crCell (prv c)) n false))

theorem bool_two (Φ : Bool → sProp 𝕄) : bigSep Finset.univ Φ = iprop(Φ true ∗ Φ false) :=
  bigSep_univ_eq_bigSepL [true, false] (by decide) (by decide) Φ
theorem bool_four (Φ : Bool × Bool → sProp 𝕄) : bigSep Finset.univ Φ = iprop(Φ (true, true) ∗ Φ (true, false) ∗ Φ (false, true) ∗ Φ (false, false)) :=
  bigSep_univ_eq_bigSepL [(true, true), (true, false), (false, true), (false, false)] (by decide) (by decide) Φ

theorem fin_Ico (n : ℕ) (Φ : ℕ → sProp 𝕄) : bigSep (Finset.univ : Finset (Fin n)) (fun i => Φ i.val) = bigSep (Finset.Ico 0 n) Φ := by
  rw [← Finset.range_eq_Ico]
  exact Idealize.ShloMosaic.Ring.bigSep_fin_eq_range n _ Φ fun _ _ => rfl

theorem pays_eq : bigSep pays (fun x => (dutyTok ER x.1 x.2.1 x.2.2 : sProp 𝕄)) = bigSep Finset.univ fun c : Dev nD => duties c := by
  unfold pays
  rw [bigSep_map, bigSep_univ_prod]
  refine bigSep_congr fun c _ => ?_
  rw [bigSep_univ_sum, bigSep_univ_sum, bool_two, bigSep_univ_prod]
  have h : (bigSep Finset.univ fun n : Fin 31 => bigSep Finset.univ fun ls : Bool × Bool =>
      (dutyTok ER ((((jobHome (.inr (.inl (n, ls))) c : Dev nD) : Thread nD τ), jobSem (.inr (.inl (n, ls))))) (jobRound (.inr (.inl (n, ls)))) (jobDuty (.inr (.inl (n, ls)))) : sProp 𝕄))
      = bigSep (Finset.Ico 0 31) (fun n => iprop(dutyTok ER (sCell true c (par n)) (n / 2) false ∗ dutyTok ER (rCell true (nxt c) (par (n + 1))) (n / 2) false
        ∗ dutyTok ER (sCell false c (par n)) (n / 2) false ∗ dutyTok ER (rCell false (nxt c) (par (n + 1))) (n / 2) false)) := by
    rw [← fin_Ico]
    refine bigSep_congr fun n _ => ?_
    rw [bool_four]
    rfl
  have h' : (bigSep Finset.univ fun n : Fin 30 =>
      (dutyTok ER ((((jobHome (.inr (.inr n)) c : Dev nD) : Thread nD τ), jobSem (.inr (.inr n)))) (jobRound (.inr (.inr n))) (jobDuty (.inr (.inr n))) : sProp 𝕄))
      = bigSep (Finset.Ico 0 30) fun n => dutyTok ER (crCell (prv c)) n false := by
    rw [← fin_Ico]
    rfl
  unfold duties
  rw [← h, ← h']
  rfl

theorem dormant_of (c : Dev nD) : iprop(duties c ∗ creds c ∗ atPos ER (barCell c) 0 ∅ 0 ∗ shut c) ⊢ (dormant c : sProp 𝕄) := by
  have one (n : ℕ) : iprop((dutyTok ER (sCell true c (par n)) (n / 2) false ∗ dutyTok ER (rCell true (nxt c) (par (n + 1))) (n / 2) false
        ∗ dutyTok ER (sCell false c (par n)) (n / 2) false ∗ dutyTok ER (rCell false (nxt c) (par (n + 1))) (n / 2) false)
      ∗ (cred (tallyAt (rCell true c (par (n + 1))) n (N true)) ∗ cred (tallyAt (rCell false c (par (n + 1))) n (N false))))
      ⊢ (iprop(toks false c n ∗ toks true c n) : sProp 𝕄) := by
    unfold toks
    iintro ⟨⟨H1, H2, H3, H4⟩, H5, H6⟩
    isplitl [H3 H4 H6]
    · isplitl [H3]; · iexact H3
      isplitl [H4] <;> iassumption
    isplitl [H1]; · iexact H1
    isplitl [H2] <;> iassumption
  have e : iprop(bigSep (Finset.Ico 0 31) (fun n => (iprop(dutyTok ER (sCell true c (par n)) (n / 2) false ∗ dutyTok ER (rCell true (nxt c) (par (n + 1))) (n / 2) false
        ∗ dutyTok ER (sCell false c (par n)) (n / 2) false ∗ dutyTok ER (rCell false (nxt c) (par (n + 1))) (n / 2) false) : sProp 𝕄))
      ∗ bigSep (Finset.Ico 0 31) (fun k => iprop(cred (tallyAt (rCell true c (par (k + 1))) k (N true)) ∗ cred (tallyAt (rCell false c (par (k + 1))) k (N false)))))
      ⊢ bigSep (Finset.Ico 0 31) (fun i => iprop(toks false c i ∗ toks true c i)) := by
    rw [← bigSep_sep']
    exact bigSep_mono fun n _ => one n
  have e' : iprop(bigSep (Finset.Ico 0 30) (fun n => (dutyTok ER (crCell (prv c)) n false : sProp 𝕄)) ∗ bigSep (Finset.Ico 0 30) fun k => cred (tallyAt (crCell c) k 1))
      ⊢ bigSep (Finset.Ico 0 30) (fun i => crTok c i) := by
    rw [← bigSep_sep']
    unfold crTok
    exact BI.Entails.refl _
  unfold duties creds dormant
  iintro ⟨⟨⟨H1, H2⟩, H3, H4⟩, ⟨H5, H6, H7⟩, Ha, Hs⟩
  isplitl [H1]; · iexact H1
  isplitl [H2]; · iexact H2
  isplitl [H5]; · iexact H5
  isplitl [Ha]; · iexact Ha
  isplitl [Hs]; · iexact Hs
  isplitl [H3 H6]
  · iapply e
    isplitl [H3] <;> iassumption
  iapply e'
  isplitl [H4] <;> iassumption

end Cert.RingProof

end
-- ==== Proof.Ring.Run.lean ====
/-
  The run of the whole program.
-/
module

public import proofs.«01_k».proof.Proof.Ring.Deal

@[expose] public section

set_option maxRecDepth 8192

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## The segments -/

/-- The buffers that live through the program. -/
abbrev bufs : Finset (DevRef τ sig) := Pipeline.ucRefs τ sig

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides beside the buffers to the region. -/
def R (c : Dev nD) : sProp 𝕄 := iprop(Tk m c ∗ (∃ r, prngReg c r) ∗ ∃ Wd, owes (c : Thread nD τ) (oweAll c) Wd)

abbrev V₀ (c : Dev nD) : Valuation τ sig (Elt F) := fun b => m (c, b)

local notation "ℍ" => Pipeline.HostSeg (Name := ℕ) (U := UU) (pcfgs (F := F)) defs₀ 𝒱₀ L lv

theorem ops_bufs : ∀ op ∈ (hostOps0 : List (HloOp τ sig (Elt F))), op.bufs ⊆ bufs := fun op h =>
  Pipeline.sub_ucRefs op (List.forall_iff_forall_mem.mp hostOps0_sub op h)

def seg0 : ℍ := Pipeline.HostSeg.ofOps _ _ _ _ _ bufs hostOps0 ops_bufs (List.forall_iff_forall_mem.mp hostOps0_fresh) (V₀ m) (R m)

def segs : List (Pipeline.Seg (pcfgs (F := F)) adm (pdats m) 0 defs₀ 𝒱₀ L lv) := [.host (seg0 m), .region (reg m)]

theorem main_eq (c : Dev nD) : main (F := F) c = Pipeline.Seg.run (segs m) :=
  main_segs adm (pdats m) 0 𝒱₀ L lv (seg0 m) (reg m) rfl c

theorem arrs_sub : Pipeline.arrRefs (τ := τ) spec0 ⊆ bufs := by
  decide

theorem reg_pre (c : Dev nD) : iprop(StableHlo.held (c : Thread nD τ) bufs (W m c) ∗ R m c) ⊢ (reg m).pre c := by
  show _ ⊢ iprop(StableHlo.held (c.tc : Thread nD τ) (Pipeline.arrRefs (τ := τ) spec0) (W m c) ∗ (∃ r, prngReg c r)
    ∗ (StableHlo.held (c.tc : Thread nD τ) ∅ (W m c) ∗ emp) ∗ Tk m c ∗ ∃ Wd, owes (c : Thread nD τ) (0 + oweAll c) Wd)
  rw [held_none, zero_add, StableHlo.held_sub_split (c.tc : Thread nD τ) arrs_sub (W m c)]
  unfold R
  iintro ⟨⟨Hh, -⟩, HT, Hp, HO⟩
  isplitl [Hh]; · iexact Hh
  isplitl [Hp]; · iexact Hp
  isplitr
  · isplitr <;> iempintro
  isplitl [HT] <;> iassumption

abbrev Tₙ (c : Dev nD) : sProp 𝕄 :=
  iprop(StableHlo.held (c.tc : Thread nD τ) (Pipeline.arrRefs (τ := τ) spec0) (W' m c) ∗ semVal (barCell c) 0)

theorem reg_post (c : Dev nD) : (reg m).post c ⊢ iprop(Tₙ m c ∗ ∃ Wd, owes (c : Thread nD τ) (0 : CellTallies nD τ sig ℕ) Wd) := by
  show iprop(StableHlo.held (c.tc : Thread nD τ) (Pipeline.arrRefs (τ := τ) spec0) (W' m c) ∗ (∃ r, prngReg c r)
    ∗ (StableHlo.held (c.tc : Thread nD τ) ∅ (W' m c) ∗ emp) ∗ Yk c ∗ ∃ Wd, owes (c : Thread nD τ) (0 : CellTallies nD τ sig ℕ) Wd) ⊢ _
  unfold Yk
  iintro ⟨Hh, -, -, Hb, HO⟩
  isplitr [HO]
  · isplitl [Hh] <;> iassumption
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells scCells pays)

/-- A resource parked on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp Idealize.SL.BI.sep_emp

def G : Dev nD → sProp 𝕄 := onDev 0 (BI.own (ER (launchOf barCells scCells pays)))

abbrev T₀ (c : Dev nD) : sProp 𝕄 := iprop(StableHlo.held (c : Thread nD τ) bufs (V₀ m c) ∗ R m c)

/-- What of a core's launch holdings is not the protocol's. -/
def bundle (c : Dev nD) : sProp 𝕄 :=
  iprop(StableHlo.held (c : Thread nD τ) bufs (V₀ m c) ∗ owes (c : Thread nD τ) (oweAll c) ∅ ∗ (∃ r, prngReg c r) ∗ creds c)

theorem T₀_intro (κ : GSem nD τ sig → ℕ) (c : Dev nD) :
    iprop(recs (Xs m) κ ∗ ((duties c ∗ atPos ER (barCell c) 0 ∅ 0 ∗ shut c) ∗ bundle m c)) ⊢ T₀ m c := by
  unfold bundle T₀ R Tk
  iintro ⟨#HR, ⟨Hd, Ha, Hs⟩, Hh, HO, Hp, Hc⟩
  isplitl [Hh]; · iexact Hh
  isplitl [Hd Ha Hs Hc]
  · iexists κ
    isplitr; · iexact HR
    iapply (dormant_of c)
    isplitl [Hd]; · iexact Hd
    isplitl [Hc]; · iexact Hc
    isplitl [Ha] <;> iassumption
  isplitl [Hp]; · iexact Hp
  iexists ∅; iexact HO

theorem recs_of (κ : GSem nD τ sig → ℕ) :
    iprop((bigSep (barCells ∪ scCells) fun g => cellInv ER (rd (Xs m)) (κ g) g) ∗ (bigSep barCells fun g => reached ER g 0) ∗ levAts L lv)
      ⊢ (recs (Xs m) κ : sProp 𝕄) := by
  unfold recs levs
  exact BI.Entails.refl _

theorem init :
    iprop((bigSep Finset.univ fun c : Dev nD => iprop(unscopedBufs c (fun b => m ((c : Thread nD τ).loc b)) ∗ unscopedSems0 c
          ∗ owes (c : Thread nD τ) (oweAll c) ∅ ∗ Pipeline.launchCred oweAll c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (oweAll c) ∅ ∗ Pipeline.launchCred oweAll c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      unscopedSems0_eq]
    unfold bundle
    iintro ⟨Hh, Hus, HO, Hcr, Hp, HG⟩
    ihave Hc := (creds_of (F := F) c) $$ Hcr
    isplitr [Hus HG]
    · isplitl [Hh]; · iexact Hh
      isplitl [HO]; · iexact HO
      isplitl [Hp]; · iexists (ρ c); iexact Hp
      iexact Hc
    isplitl [Hus] <;> iassumption
  have hsplit : (bigSep Finset.univ fun c : Dev nD => iprop(unscopedBufs c (fun b => m ((c : Thread nD τ).loc b)) ∗ unscopedSems0 c
        ∗ owes (c : Thread nD τ) (oweAll c) ∅ ∗ Pipeline.launchCred oweAll c ∗ prngReg c (ρ c) ∗ G c))
      ⊢ (iprop(bigSep Finset.univ (bundle m) ∗ bigSep Finset.univ (fun c : Dev nD => semVal (barCell c) 0) ∗ bigSep Finset.univ G) : sProp 𝕄) :=
    by
    refine (bigSep_mono (Ψ := fun c : Dev nD => (iprop(bundle m c ∗ (semVal (barCell c) 0 ∗ G c)) : sProp 𝕄)) fun c _ => hcore c).trans ?_
    rw [bigSep_sep', bigSep_sep']
    exact BI.Entails.refl _
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => (shut c : sProp 𝕄)) :=
    Entails.of_eq (by rw [bigSep_map, bigSep_univ_prod]; rfl)
  have hG : bigSep Finset.univ (G (F := F)) ⊢ BI.own (ER (launchOf barCells scCells pays)) :=
    Entails.of_eq (bigSep_onDev (F := F) 0 (BI.own (ER (launchOf barCells scCells pays))))
  have hjoin : iprop(bigSep Finset.univ (fun c : Dev nD => duties c) ∗ bigSep Finset.univ (fun c : Dev nD => (atPos ER (barCell c) 0 ∅ 0 : sProp 𝕄))
      ∗ bigSep Finset.univ (fun c : Dev nD => shut c) ∗ bigSep Finset.univ (bundle m))
      ⊢ (bigSep Finset.univ fun c : Dev nD => iprop((duties c ∗ atPos ER (barCell c) 0 ∅ 0 ∗ shut c) ∗ bundle m c) : sProp 𝕄) := by
    rw [bigSep_sep', bigSep_sep', bigSep_sep']
    iintro ⟨H1, H2, H3, H4⟩
    isplitr [H4]
    · isplitl [H1]; · iexact H1
      isplitl [H2] <;> iassumption
    iexact H4
  iintro ⟨H, #HL⟩
  ihave H := hsplit $$ H
  icases H with ⟨HB, Hv, HG⟩
  ihave Hu := hG $$ HG
  ihave Hv := hv $$ Hv
  imod (Rounds.fund_launch ER (rd (Xs m)) disjoint_cells (fun g _ h => h) pays) $$ [Hv Hu] with ⟨%κ, -, #Hinv, #Hr, Hat, Hopen, Htok⟩
  · isplitl [Hv] <;> iassumption
  imodintro
  iapply (bigSep_with_persistent (R := recs (Xs m) κ) (Φ := fun c => iprop((duties c ∗ atPos ER (barCell c) 0 ∅ 0 ∗ shut c) ∗ bundle m c)) fun c _ => T₀_intro m κ c)
  isplitr
  · iapply (recs_of m κ)
    isplitr; · iexact Hinv
    isplitr; · iexact Hr
    iexact HL
  iapply hjoin
  isplitl [Htok]; · iapply (Entails.of_eq (pays_eq (F := F))) $$ Htok
  isplitl [Hat]; · iapply hat $$ Hat
  isplitl [Hopen]; · iapply hopen $$ Hopen
  iexact HB

/-! ## The run -/

theorem unscoped_eq : ∀ sm : SemLoc sig, sm.isScoped .tc = false → sm = .reg barS := by decide

theorem fin_eq (c : Dev nD) (V : Valuation τ sig (Elt F)) : (StableHlo.held (c.tc : Thread nD τ) (Pipeline.arrRefs (τ := τ) spec0) V : sProp 𝕄)
    = iprop((((c : Thread nD τ).loc main_arg0) ↦{fullShare} V (Proc.devRef .tc main_arg0)) ∗ (((c : Thread nD τ).loc main_arg1) ↦{fullShare} V (Proc.devRef .tc main_arg1))
      ∗ (((c : Thread nD τ).loc main_arg2) ↦{fullShare} V (Proc.devRef .tc main_arg2)) ∗ (((c : Thread nD τ).loc main_arg3) ↦{fullShare} V (Proc.devRef .tc main_arg3))
      ∗ (((c : Thread nD τ).loc main_arg4) ↦{fullShare} V (Proc.devRef .tc main_arg4)) ∗ (((c : Thread nD τ).loc main_v28) ↦{fullShare} V (Proc.devRef .tc main_v28))
      ∗ (((c : Thread nD τ).loc main_v31) ↦{fullShare} V (Proc.devRef .tc main_v31)) ∗ (((c : Thread nD τ).loc main_cst) ↦{fullShare} V (Proc.devRef .tc main_cst))
      ∗ (((c : Thread nD τ).loc main_v32) ↦{fullShare} V (Proc.devRef .tc main_v32))) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v28, Proc.devRef .tc main_v31, Proc.devRef .tc main_cst, Proc.devRef .tc main_v32] (by decide) (by decide)]
  rfl

/-- What a core's memory holds in the end. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_v32) = (dat m c).arrAt 8 cfg0.N)

theorem W'_out (c : Dev nD) : W' m c (Proc.devRef .tc main_v32) = (dat m c).arrAt 8 cfg0.N := Function.update_self _ _ _

set_option backward.isDefEq.respectTransparency.types false in
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := oweAll) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => Ends m c s ∧ s.sem (barCell c) = 0)
    (hfin := fun c s' => by
      dsimp only [Tₙ]; rw [fin_eq]
      iintro ⟨⟨⟨H0, H1, H2, H3, H4, -, -, -, H8⟩, Hb0⟩, HSI⟩
      icombine HSI H0 gives %h0
      icombine HSI H1 gives %h1
      icombine HSI H2 gives %h2
      icombine HSI H3 gives %h3
      icombine HSI H4 gives %h4
      icombine HSI H8 gives %h8
      icombine HSI Hb0 gives %hb
      imodintro
      isplitr
      · ipureintro
        exact ⟨⟨(Buf.eq_of_forall_mem_univ h0).trans ((W'_ne m c _ (by decide)).trans (V_main_arg0 m c)),
          (Buf.eq_of_forall_mem_univ h1).trans ((W'_ne m c _ (by decide)).trans (V_main_arg1 m c)),
          (Buf.eq_of_forall_mem_univ h2).trans ((W'_ne m c _ (by decide)).trans (V_main_arg2 m c)),
          (Buf.eq_of_forall_mem_univ h3).trans ((W'_ne m c _ (by decide)).trans (V_main_arg3 m c)),
          (Buf.eq_of_forall_mem_univ h4).trans ((W'_ne m c _ (by decide)).trans (V_main_arg4 m c)),
          (Buf.eq_of_forall_mem_univ h8).trans (W'_out m c)⟩, by simpa using hb⟩
      iexact HSI)
    (hQ := fun s h hs => ⟨fun c => (h c).1,
      sem_eq_zero hs fun c sm hsm => by
        obtain rfl := unscoped_eq sm hsm
        exact (h c).2⟩)

/-- What `run_main` leaves of the arguments, and the semaphores. -/
theorem frame_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun _ h => ⟨fun c => ⟨(h.1 c).1, (h.1 c).2.1, (h.1 c).2.2.1, (h.1 c).2.2.2.1,
    (h.1 c).2.2.2.2.1⟩, h.2⟩) (run_main m ρ)

end Cert.RingProof

end
-- ==== Proof.Ring.Same.lean ====
/-
  The program at the machine's floats and the program at the reals have the same text: their body tables and their
  mains are equal, so what the run says of the one it says of the other.
-/
module

public import proofs.«01_k».proof.Defs
public import proofs.«01_k».proof.Proof.Gen.Kernel
public import proofs.«01_k».proof.Proof.Gen.KernelIdeal

@[expose] public section

noncomputable section

namespace Cert.RingProof

open Idealize.ShloMosaic

/-- The bodies. -/
theorem body_same : @Cert.Kernel.cc0_body Bits _ Cert.Kernel.Gen.facts
    = @Cert.KernelIdeal.cc0_body Bits _ Cert.KernelIdeal.Gen.facts := by
  rfl

/-- The body tables. -/
theorem defs₀_same : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) =>
    dsimp only
    rfl

/-- The tables with the pipeline's labels. -/
theorem defs_same : Cert.Kernel.defs (F := Bits) = Cert.KernelIdeal.defs (F := Bits) :=
  congrArg (Pipeline.defs (Cert.KernelIdeal.pcfgs (F := Bits))) defs₀_same

/-- The constant of the quarter turn. -/
theorem lit_same : Cert.Kernel.lit0 = Cert.KernelIdeal.lit0 := by rfl

set_option maxHeartbeats 1000000 in
/-- The mains. -/
theorem main_same : Cert.Kernel.main (F := Bits) = Cert.KernelIdeal.main (F := Bits) := by
  delta Cert.Kernel.main Cert.KernelIdeal.main
  funext c
  refine congrArg₂ Bind.bind ?_ ?_
  · rw [lit_same]
    rfl
  · rfl

end Cert.RingProof

end
-- ==== Proof.Ring.RefStages.lean ====
/-
  The reference, stage by stage.
-/
module

public import proofs.«01_k».proof.Proof.Gen.ReferenceIdeal.Run
public import proofs.«01_k».proof.Proof.Gen.ReferenceIdeal
public import Idealize.ShloMosaic.Lib.Pointwise

@[expose] public section

set_option maxRecDepth 8192

noncomputable section

namespace Cert.RingProof.Ref

open Cert.ReferenceIdeal Cert.ReferenceIdeal.Facts₀ Cert.ReferenceIdeal.Value
open Idealize.ShloMosaic
open Idealize.ShloMosaic.Pointwise

variable {F : FTy → Type} [FloatOps F]

attribute [local instance] Cert.ReferenceIdeal.Gen.facts

/-! ## The reference by its stages -/

/-- The angles: position times inverse frequency. -/
def ang : FVec F S256x32 .f32 :=
  mulf (broadcastInDim S256x32 ![0, 1] bcast_S256x1_S256x32_0_1 (sitofp .f32 (broadcastInDim S256x1 ![0] bcast_S256_S256x1_0 (iotaInDim S256 32 0)))) (broadcastInDim S256x32 ![0, 1] bcast_S1x32_S256x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (addi (broadcastInDim S32 ![] bcast_S_S32 (constantI S_ 32 0#32)) (muli (broadcastInDim S32 ![] bcast_S_S32 (constantI S_ 32 2#32)) (iotaInDim S32 32 0)))) (broadcastInDim S32 ![] bcast_S_S32 (constant S_ .f32 0x42800000#32)))))))

/-- A table repeated over batches and heads, each angle twice. -/
def wide (t : FVec F S256x32 .f32) : FVec F S64x256x128x64 .f32 :=
  broadcastInDim S64x256x128x64 ![0, 1, 2, 3] bcast_S1x256x1x64_S64x256x128x64_0_1_2_3 (broadcastInDim S1x256x1x64 ![1, 3] bcast_S256x64_S1x256x1x64_1_3 (shapeCast S256x64 (broadcastInDim S256x32x2 ![0, 1] bcast_S256x32_S256x32x2_0_1 t) shapeCasts_S256x32x2_S256x64))

/-- A projection. -/
def prj (x : FVec F S64x256x768 .bf16) (w : FVec F S768x8192 .bf16) : FVec F S64x256x128x64 .f32 :=
  shapeCast S64x256x128x64 (Host.dotGeneral dot_S64x256x768_S768x8192_S64x256x8192_2_0_01_1_n_n none (extf .f32 x bitsLt_bf16_f32) (extf .f32 w bitsLt_bf16_f32)) shapeCasts_S64x256x8192_S64x256x128x64

/-- A quarter turn of each pair. -/
def turned (p : FVec F S64x256x128x64 .f32) : FVec F S64x256x128x64 .f32 :=
  shapeCast S64x256x128x64 (concatenate S64x256x128x32x2 4 [⟨S64x256x128x32x1, (broadcastInDim S64x256x128x32x1 ![0, 1, 2, 3] bcast_S64x256x128x32_S64x256x128x32x1_0_1_2_3 (Host.negf (shapeCast S64x256x128x32 (extractStridedSlice S64x256x128x32x1 ![0, 0, 0, 0, 1] (shapeCast S64x256x128x32x2 p shapeCasts_S64x256x128x64_S64x256x128x32x2) slices_S64x256x128x32x2_S64x256x128x32x1_0_0_0_0_1) shapeCasts_S64x256x128x32x1_S64x256x128x32)))⟩, ⟨S64x256x128x32x1, (broadcastInDim S64x256x128x32x1 ![0, 1, 2, 3] bcast_S64x256x128x32_S64x256x128x32x1_0_1_2_3 (shapeCast S64x256x128x32 (extractStridedSlice S64x256x128x32x1 ![0, 0, 0, 0, 0] (shapeCast S64x256x128x32x2 p shapeCasts_S64x256x128x64_S64x256x128x32x2) slices_S64x256x128x32x2_S64x256x128x32x1_0_0_0_0_0) shapeCasts_S64x256x128x32x1_S64x256x128x32))⟩] concatenates_S64x256x128x32x1_S64x256x128x32x1_S64x256x128x32x2_d4) shapeCasts_S64x256x128x32x2_S64x256x128x64

/-- The rotation. -/
def rotd (p co si : FVec F S64x256x128x64 .f32) : FVec F S64x256x128x64 .f32 :=
  addf (mulf p co) (mulf (turned p) si)

/-- The scores. -/
def scr (q k : FVec F S64x256x128x64 .f32) : FVec F S64x128x256x256 .f32 :=
  mulf (Host.dotGeneral dot_S64x256x128x64_S64x256x128x64_S64x128x256x256_3_3_1_1_02_02 none q k) (broadcastInDim S64x128x256x256 ![] bcast_S_S64x128x256x256 (constant S_ .f32 0x3E000000#32))

/-- A row's number beside each of its entries. -/
def rep (t : FVec F S64x128x256 .f32) : FVec F S64x128x256x256 .f32 :=
  broadcastInDim S64x128x256x256 ![0, 1, 2, 3] bcast_S64x128x256x1_S64x128x256x256_0_1_2_3 (broadcastInDim S64x128x256x1 ![0, 1, 2] bcast_S64x128x256_S64x128x256x1_0_1_2 t)

/-- The exponentials. -/
def expd (s : FVec F S64x128x256x256 .f32) : FVec F S64x128x256x256 .f32 :=
  Host.exp (subf s (rep (Host.reduce FloatOps.maximumf s (constant S_ .f32 0xFF800000#32) reducesTo_S64x128x256x256_S64x128x256_d3 h_S_)))

/-- The weights. -/
def wts (e : FVec F S64x128x256x256 .f32) : FVec F S64x128x256x256 .f32 :=
  Host.divf e (rep (Host.reduceAdd e (constant S_ .f32 0x00000000#32) reducesTo_S64x128x256x256_S64x128x256_d3 h_S_))

/-- The context. -/
def ctxd (v : FVec F S64x256x128x64 .f32) (w : FVec F S64x128x256x256 .f32) : FVec F S64x256x8192 .f32 :=
  shapeCast S64x256x8192 (transpose S64x256x128x64 [0, 3, 1, 2] (Host.dotGeneral dot_S64x256x128x64_S64x128x256x256_S64x128x64x256_1_3_3_2_02_01 none v w) transposes_S64x128x64x256_S64x256x128x64_0_3_1_2) shapeCasts_S64x256x128x64_S64x256x8192

/-- The output projection. -/
def outd (c : FVec F S64x256x8192 .f32) (wo : FVec F S8192x768 .bf16) : FVec F S64x256x768 .f32 :=
  Host.dotGeneral dot_S64x256x8192_S8192x768_S64x256x768_2_0_01_1_n_n none c (extf .f32 wo bitsLt_bf16_f32)

/-- The whole reference of its arguments. -/
def whole (x : FVec F S64x256x768 .bf16) (wq wk wv : FVec F S768x8192 .bf16) (wo : FVec F S8192x768 .bf16) : FVec F S64x256x768 .f32 :=
  outd (ctxd (prj x wv) (wts (expd (scr (rotd (prj x wq) (wide (Host.cos ang)) (wide (Host.sin ang))) (rotd (prj x wk) (wide (Host.cos ang)) (wide (Host.sin ang))))))) wo

theorem res_eq (m : (ℓ : Loc nD τ sig) → Buf (Elt F) ℓ) (c : Dev nD) :
    res_main_v85 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v85 whole outd ctxd wts expd scr rotd turned prj wide ang rep
  rfl

end Cert.RingProof.Ref

end
-- ==== Proof.Ring.Spec.lean ====
/-
  Attention of one batch in one head, over the extended reals.
-/
module

public import Idealize.ShloMosaic.Lib.Pointwise

@[expose] public section

noncomputable section

namespace Cert.RingProof.Spec

open Idealize.ShloMosaic

/-- Entry of a quarter turn of each pair of a row. -/
def turn (a : Fin 64 → EReal) (e : Fin 64) : EReal :=
  if e.val % 2 < 1 then -a ⟨e.val / 2 * 2 + 1, by omega⟩ else a ⟨e.val / 2 * 2, by omega⟩

/-- A row rotated by its angles' cosines and sines. -/
def rotRow (co si a : Fin 64 → EReal) (e : Fin 64) : EReal := a e * co e + turn a e * si e

/-- A score of a query row and a key row. -/
def score (q k : Fin 64 → EReal) : EReal := (∑ e, q e * k e) * Ideal.ofBits .f32 1040187392#32

/-- A row of scores shifted by its largest and exponentiated. -/
def expRow (s : Fin 256 → EReal) (j : Fin 256) : EReal :=
  Ideal.exp (s j - Finset.fold max (Ideal.ofBits .f32 4286578688#32) s Finset.univ)

/-- A row of weights. -/
def weight (t : Fin 256 → EReal) (j : Fin 256) : EReal := Ideal.div (t j) (∑ x, t x)

/-- The projected rows of one batch through one head's columns. -/
def projRow (X : Fin 256 → Fin 768 → EReal) (W : Fin 768 → Fin 64 → EReal) (i : Fin 256) (e : Fin 64) : EReal := ∑ k, X i k * W k e

/-- Attention of one batch in one head: the context. -/
def att (co si : Fin 256 → Fin 64 → EReal) (X : Fin 256 → Fin 768 → EReal) (Wq Wk Wv : Fin 768 → Fin 64 → EReal) (i : Fin 256) (e : Fin 64) : EReal :=
  ∑ j, weight (expRow fun j => score (rotRow (co i) (si i) (projRow X Wq i)) (rotRow (co j) (si j) (projRow X Wk j))) j * projRow X Wv j e

end Cert.RingProof.Spec

end
-- ==== Proof.Ring.RefAt.lean ====
/-
  The stages of the reference at an index.
-/
module

public import proofs.«01_k».proof.Proof.Ring.RefStages
public import proofs.«01_k».proof.Proof.Ring.Spec

@[expose] public section

set_option maxRecDepth 8192

noncomputable section

namespace Cert.RingProof.Ref

open Cert.ReferenceIdeal Cert.ReferenceIdeal.Facts₀ Cert.ReferenceIdeal.Value
open Idealize.ShloMosaic
open Idealize.ShloMosaic.Pointwise

theorem prj_at (x : FVec Ideal S64x256x768 .bf16) (w : FVec Ideal S768x8192 .bf16) (b : Fin 64) (i : Fin 256) (h : Fin 128) (e : Fin 64) :
    prj x w (ix4 b i h e) = Spec.projRow (fun i k => x (ix3 b i k)) (fun k e => w (ix2 k ⟨h.val * 64 + e.val, by omega⟩)) i e := by
  unfold Spec.projRow
  pointwise [prj]

theorem turned_at (p : FVec Ideal S64x256x128x64 .f32) (b : Fin 64) (i : Fin 256) (h : Fin 128) (e : Fin 64) :
    turned p (ix4 b i h e) = Spec.turn (fun e => p (ix4 b i h e)) e := by
  unfold Spec.turn
  pointwise [turned]
  split <;> rfl

theorem wide_at (p : FVec Ideal S256x32 .f32) (b : Fin 64) (i : Fin 256) (h : Fin 128) (e : Fin 64) :
    wide p (ix4 b i h e) = p (ix2 i ⟨e.val / 2, by omega⟩) := by
  pointwise [wide]

theorem rotd_at (p co si : FVec Ideal S64x256x128x64 .f32) (b : Fin 64) (i : Fin 256) (h : Fin 128) (e : Fin 64) :
    rotd p co si (ix4 b i h e) = Spec.rotRow (fun e => co (ix4 b i h e)) (fun e => si (ix4 b i h e)) (fun e => p (ix4 b i h e)) e := by
  unfold Spec.rotRow
  rw [← turned_at]
  pointwise [rotd]

theorem scr_at (q k : FVec Ideal S64x256x128x64 .f32) (b : Fin 64) (h : Fin 128) (i j : Fin 256) :
    scr q k (ix4 b h i j) = Spec.score (fun e => q (ix4 b i h e)) (fun e => k (ix4 b j h e)) := by
  unfold Spec.score
  pointwise [scr]

theorem expd_at (s : FVec Ideal S64x128x256x256 .f32) (b : Fin 64) (h : Fin 128) (i j : Fin 256) :
    expd s (ix4 b h i j) = Spec.expRow (fun j => s (ix4 b h i j)) j := by
  unfold Spec.expRow
  pointwise [expd, rep]

theorem wts_at (s : FVec Ideal S64x128x256x256 .f32) (b : Fin 64) (h : Fin 128) (i j : Fin 256) :
    wts s (ix4 b h i j) = Spec.weight (fun j => s (ix4 b h i j)) j := by
  unfold Spec.weight
  pointwise [wts, rep]

theorem ctxd_at (v : FVec Ideal S64x256x128x64 .f32) (w : FVec Ideal S64x128x256x256 .f32) (b : Fin 64) (i : Fin 256) (h : Fin 128) (e : Fin 64) :
    ctxd v w (ix3 b i ⟨64 * h.val + e.val, by omega⟩) = ∑ j, w (ix4 b h i j) * v (ix4 b j h e) := by
  pointwise [ctxd]
  exact Finset.sum_congr rfl fun j _ => mul_comm _ _

theorem outd_at (v : FVec Ideal S64x256x8192 .f32) (w : FVec Ideal S8192x768 .bf16) (b : Fin 64) (i : Fin 256) (n : Fin 768) :
    outd v w (ix3 b i n) = ∑ x, v (ix3 b i x) * w (ix2 x n) := by
  pointwise [outd]

/-- The cosines, sines of the angles beside a head's entries. -/
def cosAt (i : Fin 256) (e : Fin 64) : EReal := Host.cos (F := Ideal) ang (ix2 i ⟨e.val / 2, by omega⟩)
def sinAt (i : Fin 256) (e : Fin 64) : EReal := Host.sin (F := Ideal) ang (ix2 i ⟨e.val / 2, by omega⟩)

/-- The context of a batch, a head, of the reference. -/
theorem context_at (x : FVec Ideal S64x256x768 .bf16) (wq wk wv : FVec Ideal S768x8192 .bf16) (b : Fin 64) (i : Fin 256) (h : Fin 128) (e : Fin 64) :
    ctxd (prj x wv) (wts (expd (scr (rotd (prj x wq) (wide (Host.cos ang)) (wide (Host.sin ang))) (rotd (prj x wk) (wide (Host.cos ang)) (wide (Host.sin ang))))))
        (ix3 b i ⟨64 * h.val + e.val, by omega⟩)
      = Spec.att cosAt sinAt (fun i k => x (ix3 b i k)) (fun k e => wq (ix2 k ⟨h.val * 64 + e.val, by omega⟩)) (fun k e => wk (ix2 k ⟨h.val * 64 + e.val, by omega⟩))
          (fun k e => wv (ix2 k ⟨h.val * 64 + e.val, by omega⟩)) i e := by
  rw [ctxd_at]
  simp only [wts_at, expd_at, scr_at, rotd_at, wide_at, prj_at]
  rfl

end Cert.RingProof.Ref

end
-- ==== Proof.Ring.Angle.lean ====
/-
  The angles of the rotation.
-/
module

public import proofs.«01_k».proof.Proof.Ring.RefAt

@[expose] public section

set_option maxRecDepth 8192

noncomputable section

namespace Cert.RingProof.Ref

open Cert.ReferenceIdeal Cert.ReferenceIdeal.Facts₀ Cert.ReferenceIdeal.Value
open Idealize.ShloMosaic
open Idealize.ShloMosaic.Pointwise

/-- The angle of position `i` and pair `f`. -/
def angle (i f : ℕ) : EReal :=
  FloatOps.sitofp (F := Ideal) FTy.f32 (BitVec.ofNat 32 i) *
    Ideal.div 1 (Ideal.pow (Ideal.ofBits FTy.f32 1176256512#32)
      (Ideal.div (FloatOps.sitofp (F := Ideal) FTy.f32 (IntOp.addi (0#32) (IntOp.muli (2#32) (BitVec.ofNat 32 f)))) (Ideal.ofBits FTy.f32 1115684864#32)))

theorem cosAt_eq (i : Fin 256) (e : Fin 64) : cosAt i e = Ideal.cos (angle i.val (e.val / 2)) := by
  unfold cosAt angle
  pointwise [ang]

theorem sinAt_eq (i : Fin 256) (e : Fin 64) : sinAt i e = Ideal.sin (angle i.val (e.val / 2)) := by
  unfold sinAt angle
  pointwise [ang]

end Cert.RingProof.Ref

end
-- ==== Proof.Ring.Quarter.lean ====
/-
  The constant matrix of the quarter turn.
-/
module

public import proofs.«01_k».proof.KernelIdeal
public import proofs.«01_k».proof.Proof.Gen.KernelIdeal
public import Idealize.ShloMosaic.Lib.Pointwise
public import Idealize.ShloMosaic.Lib.IdealHost

@[expose] public section

set_option maxRecDepth 16384

noncomputable section

namespace Cert.RingProof

open Cert.KernelIdeal Cert.KernelIdeal.Gen
open Idealize.ShloMosaic
open Idealize.ShloMosaic.TcCoe
open Idealize.ShloMosaic.Pointwise

/-- The word of the quarter-turn matrix at row `x`, column `c`; the zeros of the blocks off the diagonal carry the sign of what they were multiplied with. -/
def turnWord (x c : ℕ) : ℕ :=
  bif Nat.beq (x % 64 / 2) (c % 64 / 2) && !(Nat.beq (x % 2) (c % 2)) then
    (bif Nat.beq (x / 64) (c / 64) then (bif Nat.beq (c % 2) 0 then 0xBF80 else 0x3F80) else (bif Nat.beq (c % 2) 0 then 0x8000 else 0x0000))
  else 0x0000

/-- One of 128 values, chosen by a number. -/
def pick {α : Type} (d : α) (f : ℕ → α) (i : ℕ) : α := match i with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => d

theorem pick_eq {α : Type} (d : α) (f : ℕ → α) (i : ℕ) (h : i < 128) : pick d f i = f i := by
  interval_cases i <;> rfl

/-- One of the four quarters of the printed table, by its rows and halves of rows. -/
def quarter (q i : ℕ) : BitVec 16 :=
  pick 0#16 (fun k => pick 0#16 (fun j => BitVec.ofNat 16 (turnWord (64 * q + k / 2) (k % 2 * 128 + j))) (i % 128)) (i / 128 % 128)

set_option maxHeartbeats 4000000 in
theorem quarter0 (i : ℕ) : lit0t1_0 i = quarter 0 i := by rfl
set_option maxHeartbeats 4000000 in
theorem quarter1 (i : ℕ) : lit0t1_1 i = quarter 1 i := by rfl
set_option maxHeartbeats 4000000 in
theorem quarter2 (i : ℕ) : lit0t1_2 i = quarter 2 i := by rfl
set_option maxHeartbeats 4000000 in
theorem quarter3 (i : ℕ) : lit0t1_3 i = quarter 3 i := by rfl

theorem lit_at (n : Fin 65536) : lit0 n = BitVec.ofNat 16 (turnWord (n.val / 256) (n.val % 256)) := by
  have hq : ∀ q, n.val / 16384 = q → quarter q n.val = BitVec.ofNat 16 (turnWord (n.val / 256) (n.val % 256)) := by
    intro q h
    unfold quarter
    rw [pick_eq _ _ _ (Nat.mod_lt _ (by decide)), pick_eq _ _ _ (Nat.mod_lt _ (by decide))]
    have e1 : 64 * q + n.val / 128 % 128 / 2 = n.val / 256 := by omega
    have e2 : n.val / 128 % 128 % 2 * 128 + n.val % 128 = n.val % 256 := by omega
    rw [e1, e2]
  have hn := n.isLt
  obtain h | h | h | h : n.val / 16384 = 0 ∨ n.val / 16384 = 1 ∨ n.val / 16384 = 2 ∨ n.val / 16384 = 3 := by omega
  all_goals
    rw [← hq _ h]
    obtain ⟨i, hi⟩ := n
    show lit0t i = _
    unfold lit0t
    dsimp only at h
    rw [h]
  · exact quarter0 i
  · exact quarter1 i
  · exact quarter2 i
  · exact quarter3 i

/-- The entry of the matrix as a number. -/
theorem turn_entry (x c : ℕ) (hx : x < 256) (hc : c < 256) :
    Ideal.ofBits .bf16 (BitVec.ofNat 16 (turnWord x c)) = if x / 2 = c / 2 ∧ x ≠ c then (if c % 2 = 0 then -1 else 1) else (0 : EReal) := by
  have hz : Ideal.ofBits .bf16 0x8000#16 = 0 := by
    simp [Ideal.ofBits, Ideal.ieee]
  have hb : ∀ a b : ℕ, Nat.beq a b = decide (a = b) := fun a b => by rw [Bool.eq_iff_iff]; simp
  have hp : (Nat.beq (x % 64 / 2) (c % 64 / 2) && !(Nat.beq (x % 2) (c % 2))) = decide (x % 64 / 2 = c % 64 / 2 ∧ x % 2 ≠ c % 2) := by
    rw [hb, hb, Bool.eq_iff_iff]; simp
  unfold turnWord
  rw [hp, hb, hb]
  by_cases h : x / 2 = c / 2 ∧ x ≠ c
  · have h1 : x % 64 / 2 = c % 64 / 2 ∧ x % 2 ≠ c % 2 := by omega
    have h2 : x / 64 = c / 64 := by omega
    rw [if_pos h, decide_eq_true h1, decide_eq_true h2]
    by_cases h3 : c % 2 = 0
    · rw [if_pos h3, decide_eq_true h3]
      exact Ideal.ofBits_neg_one_bf16.trans rfl
    · rw [if_neg h3, decide_eq_false h3]
      exact Ideal.ofBits_one_bf16
  · rw [if_neg h]
    by_cases h1 : x % 64 / 2 = c % 64 / 2 ∧ x % 2 ≠ c % 2
    · have h2 : ¬ x / 64 = c / 64 := by omega
      rw [decide_eq_true h1, decide_eq_false h2]
      by_cases h3 : c % 2 = 0
      · rw [decide_eq_true h3]; exact hz
      · rw [decide_eq_false h3]; exact Ideal.ofBits_zero_bf16
    · rw [decide_eq_false h1]
      exact Ideal.ofBits_zero_bf16

end Cert.RingProof

end
-- ==== Proof.Ring.KerAt.lean ====
/-
  The stages of the kernel at an index.
-/
module

public import proofs.«01_k».proof.Proof.Ring.Group
public import proofs.«01_k».proof.Proof.Ring.TripPre
public import proofs.«01_k».proof.Proof.Ring.Init
public import proofs.«01_k».proof.Proof.Ring.Spec
public import Idealize.ShloMosaic.Lib.Pointwise

@[expose] public section

set_option maxRecDepth 16384

noncomputable section

namespace Cert.RingProof

open Cert.KernelIdeal Cert.KernelIdeal.Gen
open Idealize.ShloMosaic
open Idealize.ShloMosaic.TcCoe
open Idealize.ShloMosaic.Pointwise

section Stages

theorem rowsOf_at {V : Type} (x : S2x256x768.Idx → V) (b : Fin 2) (i : Fin 256) (k : Fin 768) :
    rowsOf x (ix2 ⟨256 * b.val + i.val, by omega⟩ k) = x (ix3 b i k) :=
  congrArg x (congr (congr (congrArg ix3 (Fin.ext (show (256 * b.val + i.val) / 256 = b.val by omega)))
    (Fin.ext (show (256 * b.val + i.val) % 256 = i.val by omega))) rfl)

theorem proj_first (x : FVec Ideal S512x768 .bf16) (wq wk wv : FVec Ideal S768x256 .bf16) (r : Fin 512) (c : Fin 256) :
    proj x (three wq wk wv) ![0, 0] slices_S768x768_o0_0_S768x256 (ix2 r c) = ∑ k, x (ix2 r k) * wq (ix2 k c) := by
  pointwise [proj]
  refine Finset.sum_congr rfl fun k _ => congrArg (x (ix2 r k) * ·) ?_
  exact dif_pos c.isLt

theorem proj_second (x : FVec Ideal S512x768 .bf16) (wq wk wv : FVec Ideal S768x256 .bf16) (r : Fin 512) (c : Fin 256) :
    proj x (three wq wk wv) ![0, 256] slices_S768x768_o0_256_S768x256 (ix2 r c) = ∑ k, x (ix2 r k) * wk (ix2 k c) := by
  pointwise [proj]
  refine Finset.sum_congr rfl fun k _ => congrArg (x (ix2 r k) * ·) ?_
  refine (dif_neg (by show ¬ (256 + c.val < 256); omega)).trans ((dif_pos (by show 256 + c.val < 512; omega)).trans ?_)
  exact congrArg wk (congrArg (ix2 k) (Fin.ext (by show 256 + c.val - 256 = c.val; omega)))

theorem proj_third (x : FVec Ideal S512x768 .bf16) (wq wk wv : FVec Ideal S768x256 .bf16) (r : Fin 512) (c : Fin 256) :
    proj x (three wq wk wv) ![0, 512] slices_S768x768_o0_512_S768x256 (ix2 r c) = ∑ k, x (ix2 r k) * wv (ix2 k c) := by
  pointwise [proj]
  refine Finset.sum_congr rfl fun k _ => congrArg (x (ix2 r k) * ·) ?_
  refine (dif_neg (by show ¬ (512 + c.val < 256); omega)).trans ((dif_neg (by show ¬ (512 + c.val < 512); omega)).trans ?_)
  exact congrArg wv (congrArg (ix2 k) (Fin.ext (by show 512 + c.val - 512 = c.val; omega)))

/-- The entry of the quarter-turn matrix as a number. -/
def turnEntry (x c : ℕ) : EReal := if x / 2 = c / 2 ∧ x ≠ c then (if c % 2 = 0 then -1 else 1) else 0

/-- A row times the quarter-turn matrix is the quarter turn of the row. -/
theorem sum_turn (a : Fin 256 → EReal) (h : Fin 4) (e : Fin 64) :
    ∑ x, a x * turnEntry x.val (64 * h.val + e.val) = Spec.turn (fun e => a ⟨64 * h.val + e.val, by omega⟩) e := by
  unfold Spec.turn turnEntry
  by_cases h0 : e.val % 2 < 1
  · rw [if_pos h0, Finset.sum_eq_single (⟨64 * h.val + (e.val / 2 * 2 + 1), by omega⟩ : Fin 256)]
    · rw [if_pos (by constructor <;> dsimp only <;> omega), if_pos (by omega)]
      rw [mul_neg, mul_one]
    · intro x _ hx
      rw [if_neg (fun hh => hx (Fin.ext (by show x.val = 64 * h.val + (e.val / 2 * 2 + 1); omega))), mul_zero]
    · intro hh; exact absurd (Finset.mem_univ _) hh
  · rw [if_neg h0, Finset.sum_eq_single (⟨64 * h.val + e.val / 2 * 2, by omega⟩ : Fin 256)]
    · rw [if_pos (by constructor <;> dsimp only <;> omega), if_neg (by omega), mul_one]
    · intro x _ hx
      rw [if_neg (fun hh => hx (Fin.ext (by show x.val = 64 * h.val + e.val / 2 * 2; omega))), mul_zero]
    · intro hh; exact absurd (Finset.mem_univ _) hh

theorem rot_at (pm : FVec Ideal S256x256 .bf16) (hpm : ∀ x c, pm (ix2 x c) = turnEntry x.val c.val) (co si a : FVec Ideal S512x256 .f32) (r : Fin 512) (h : Fin 4) (e : Fin 64) :
    rot pm co si a (ix2 r ⟨64 * h.val + e.val, by omega⟩)
      = Spec.rotRow (fun e => co (ix2 r ⟨64 * h.val + e.val, by omega⟩)) (fun e => si (ix2 r ⟨64 * h.val + e.val, by omega⟩))
          (fun e => a (ix2 r ⟨64 * h.val + e.val, by omega⟩)) e := by
  unfold Spec.rotRow
  rw [← sum_turn (fun x => a (ix2 r x)) h e]
  have hs : ∑ x, a (ix2 r x) * turnEntry x.val (64 * h.val + e.val) = ∑ x, a (ix2 r x) * pm (ix2 x ⟨64 * h.val + e.val, by omega⟩) :=
    Finset.sum_congr rfl fun x _ => by rw [hpm]
  rw [hs]
  pointwise [rot]

theorem scores_at (q k : FVec Ideal S512x256 .bf16) (b : Fin 2) (h : Fin 4) (i j : Fin 256) :
    scores q k b h (ix2 i j) = Spec.score (fun e => q (ix2 ⟨256 * b.val + i.val, by omega⟩ ⟨64 * h.val + e.val, by omega⟩))
      (fun e => k (ix2 ⟨256 * b.val + j.val, by omega⟩ ⟨64 * h.val + e.val, by omega⟩)) := by
  unfold Spec.score
  pointwise [scores]

theorem exps_at (s : FVec Ideal S256x256 .f32) (i j : Fin 256) : exps s (ix2 i j) = Spec.expRow (fun j => s (ix2 i j)) j := by
  unfold Spec.expRow
  pointwise [exps]

theorem probs_at (s : FVec Ideal S256x256 .f32) (i j : Fin 256) : probs s (ix2 i j) = Spec.weight (fun j => s (ix2 i j)) j := by
  unfold Spec.weight
  pointwise [probs]

theorem head_at (q k v : FVec Ideal S512x256 .bf16) (b : Fin 2) (h : Fin 4) (i : Fin 256) (e : Fin 64) :
    head q k v b h (ix2 i e) = ∑ x, probs (exps (scores q k b h)) (ix2 i x) * v (ix2 ⟨256 * b.val + x.val, by omega⟩ ⟨64 * h.val + e.val, by omega⟩) := by
  pointwise [head]

theorem addTo_at (acc : FVec Ideal S512x768 .f32) (ctx : FVec Ideal S512x256 .bf16) (wo : FVec Ideal S256x768 .bf16) (r : Fin 512) (n : Fin 768) :
    addTo acc ctx wo (ix2 r n) = acc (ix2 r n) + ∑ x, ctx (ix2 r x) * wo (ix2 x n) := by
  pointwise [addTo]

theorem zero_at (r : Fin 512) (n : Fin 768) : k0_pay53 (F := Ideal) (ix2 r n) = 0 := by
  pointwise [k0_pay53]

theorem beside_at {V : Type} (p : Fin 2 → Fin 4 → S256x64.Idx → V) (b : Fin 2) (i : Fin 256) (h : Fin 4) (e : Fin 64) :
    beside p (ix2 ⟨256 * b.val + i.val, by omega⟩ ⟨64 * h.val + e.val, by omega⟩) = p b h (ix2 i e) := by
  refine congr (congr (congrArg p (Fin.ext ?_)) (Fin.ext ?_)) (congr (congrArg ix2 (Fin.ext ?_)) (Fin.ext ?_))
  · show (256 * b.val + i.val) / 256 = b.val; omega
  · show (64 * h.val + e.val) / 64 = h.val; omega
  · show (256 * b.val + i.val) % 256 = i.val; omega
  · show (64 * h.val + e.val) % 64 = e.val; omega

/-- The context of a group, at a batch, a row, a head and an entry, is attention through that head's columns. -/
theorem ctxOf_at (x : FVec Ideal S2x256x768 .bf16) (pm : FVec Ideal S256x256 .bf16) (hpm : ∀ x c, pm (ix2 x c) = turnEntry x.val c.val) (co si : FVec Ideal S512x256 .f32)
    (tc ts : Fin 256 → Fin 64 → EReal)
    (hco : ∀ (b : Fin 2) (i : Fin 256) (h : Fin 4) (e : Fin 64), co (ix2 ⟨256 * b.val + i.val, by omega⟩ ⟨64 * h.val + e.val, by omega⟩) = tc i e)
    (hsi : ∀ (b : Fin 2) (i : Fin 256) (h : Fin 4) (e : Fin 64), si (ix2 ⟨256 * b.val + i.val, by omega⟩ ⟨64 * h.val + e.val, by omega⟩) = ts i e)
    (wq wk wv : FVec Ideal S768x256 .bf16) (b : Fin 2) (i : Fin 256) (h : Fin 4) (e : Fin 64) :
    ctxOf (rowsOf x) pm co si (three wq wk wv) (ix2 ⟨256 * b.val + i.val, by omega⟩ ⟨64 * h.val + e.val, by omega⟩)
      = Spec.att tc ts (fun i k => x (ix3 b i k)) (fun k e => wq (ix2 k ⟨64 * h.val + e.val, by omega⟩)) (fun k e => wk (ix2 k ⟨64 * h.val + e.val, by omega⟩))
          (fun k e => wv (ix2 k ⟨64 * h.val + e.val, by omega⟩)) i e := by
  have hv : ∀ j : Fin 256, truncf (F := Ideal) .bf16 (proj (rowsOf x) (three wq wk wv) ![0, 512] slices_S768x768_o0_512_S768x256) bitsLt_bf16_f32
      (ix2 ⟨256 * b.val + j.val, by omega⟩ ⟨64 * h.val + e.val, by omega⟩) = ∑ k, x (ix3 b j k) * wv (ix2 k ⟨64 * h.val + e.val, by omega⟩) := fun j => by
    show proj (rowsOf x) (three wq wk wv) ![0, 512] slices_S768x768_o0_512_S768x256 _ = _
    rw [proj_third]
    simp only [rowsOf_at]
  unfold ctxOf
  rw [beside_at, head_at]
  simp only [probs_at, exps_at, scores_at, rot_at pm hpm, hco, hsi, proj_first, proj_second, rowsOf_at, hv]
  rfl

end Stages

end Cert.RingProof

end
-- ==== Proof.Ring.Windows.lean ====
/-
  What the windows bring, of the arguments.
-/
module

public import proofs.«01_k».proof.Proof.Ring.Dat
public import proofs.«01_k».proof.Proof.Ring.Angle
public import proofs.«01_k».proof.Proof.Ring.Quarter
public import proofs.«01_k».proof.Proof.Ring.KerAt
public import Idealize.ShloMosaic.Lib.Pointwise
public import Idealize.ShloMosaic.Lib.Pipeline.ValueKit
public import Idealize.ShloMosaic.Lib.StableHlo.ReadAt

@[expose] public section

set_option maxRecDepth 16384

noncomputable section

namespace Cert.RingProof

open Cert.KernelIdeal Cert.KernelIdeal.Gen
open Idealize.ShloMosaic
open Idealize.ShloMosaic.TcCoe
open Idealize.ShloMosaic.Pointwise

open Idealize.ShloMosaic.Pipeline (Dat Cfg Window)

section Windows

variable (m : (ℓ : Loc nD τ sig) → Buf (Elt Ideal) ℓ) (c : Dev nD)

theorem xIn_eq : xIn m c = m ((c : Thread nD τ).loc main_arg0) := by
  funext j
  rw [← V_main_arg0 m c]
  unfold xIn
  blk_simp [iblk]
  refine congrArg (V m c main_arg0) (funext fun a => Fin.ext ?_)
  match a with
  | 0 => exact (Nat.zero_add _).trans (Nat.one_mul _)
  | 1 => exact (Nat.zero_add _).trans (Nat.one_mul _)
  | 2 => exact (Nat.zero_add _).trans (Nat.one_mul _)

theorem wqIn_eq : wqIn m c = m ((c : Thread nD τ).loc main_arg1) := by
  funext j
  rw [← V_main_arg1 m c]
  unfold wqIn
  blk_simp [iblk]
  refine congrArg (V m c main_arg1) (funext fun a => Fin.ext ?_)
  match a with
  | 0 => exact (Nat.zero_add _).trans (Nat.one_mul _)
  | 1 => exact (Nat.zero_add _).trans (Nat.one_mul _)

theorem wkIn_eq : wkIn m c = m ((c : Thread nD τ).loc main_arg2) := by
  funext j
  rw [← V_main_arg2 m c]
  unfold wkIn
  blk_simp [iblk]
  refine congrArg (V m c main_arg2) (funext fun a => Fin.ext ?_)
  match a with
  | 0 => exact (Nat.zero_add _).trans (Nat.one_mul _)
  | 1 => exact (Nat.zero_add _).trans (Nat.one_mul _)

theorem wvIn_eq : wvIn m c = m ((c : Thread nD τ).loc main_arg3) := by
  funext j
  rw [← V_main_arg3 m c]
  unfold wvIn
  blk_simp [iblk]
  refine congrArg (V m c main_arg3) (funext fun a => Fin.ext ?_)
  match a with
  | 0 => exact (Nat.zero_add _).trans (Nat.one_mul _)
  | 1 => exact (Nat.zero_add _).trans (Nat.one_mul _)

theorem woIn_eq : woIn m c = m ((c : Thread nD τ).loc main_arg4) := by
  funext j
  rw [← V_main_arg4 m c]
  unfold woIn
  blk_simp [iblk]
  refine congrArg (V m c main_arg4) (funext fun a => Fin.ext ?_)
  match a with
  | 0 => exact (Nat.zero_add _).trans (Nat.one_mul _)
  | 1 => exact (Nat.zero_add _).trans (Nat.one_mul _)

theorem coIn_at (r : Fin 512) (y : Fin 256) : coIn m c (ix2 r y) = Ideal.cos (Ref.angle (r.val % 256) (y.val % 64 / 2)) := by
  have h0 : (((View.whole main_v28).slice (win0_5.rect t0_0)).emb (ix2 r y) 0).val = r.val := (Nat.zero_add _).trans (Nat.one_mul _)
  have h1 : (((View.whole main_v28).slice (win0_5.rect t0_0)).emb (ix2 r y) 1).val = y.val := (Nat.zero_add _).trans (Nat.one_mul _)
  unfold coIn
  blk_simp [iblk]
  unfold V
  after_reads_at
  rw [h0, h1]
  rfl

theorem siIn_at (r : Fin 512) (y : Fin 256) : siIn m c (ix2 r y) = Ideal.sin (Ref.angle (r.val % 256) (y.val % 64 / 2)) := by
  have h0 : (((View.whole main_v31).slice (win0_6.rect t0_0)).emb (ix2 r y) 0).val = r.val := (Nat.zero_add _).trans (Nat.one_mul _)
  have h1 : (((View.whole main_v31).slice (win0_6.rect t0_0)).emb (ix2 r y) 1).val = y.val := (Nat.zero_add _).trans (Nat.one_mul _)
  unfold siIn
  blk_simp [iblk]
  unfold V
  after_reads_at
  rw [h0, h1]
  rfl

theorem pmIn_at (x y : Fin 256) : pmIn m c (ix2 x y) = turnEntry x.val y.val := by
  have h : (S256x256.rowMajor (((View.whole main_cst).slice (win0_7.rect t0_0)).emb (ix2 x y))).val = x.val * 256 + y.val := by
    have h0 : (((View.whole main_cst).slice (win0_7.rect t0_0)).emb (ix2 x y)) = ix2 x y := funext fun a => Fin.ext (by
      match a with
      | 0 => exact (Nat.zero_add _).trans (Nat.one_mul _)
      | 1 => exact (Nat.zero_add _).trans (Nat.one_mul _))
    rw [h0, Shape.rowMajor_val_two]
    rfl
  unfold pmIn
  blk_simp [iblk]
  unfold V
  after_reads_simp
  refine (congrArg (Ideal.ofBits .bf16) (lit_at (S256x256.rowMajor (((View.whole main_cst).slice (win0_7.rect t0_0)).emb (ix2 x y))))).trans ?_
  rw [h]
  have e0 : (x.val * 256 + y.val) / 256 = x.val := by omega
  have e1 : (x.val * 256 + y.val) % 256 = y.val := by omega
  rw [e0, e1]
  exact turn_entry x.val y.val x.isLt y.isLt

theorem out_eq : (dat m c).arrAt 8 cfg0.N = res m c := by
  refine (dat m c).arrAt_eq_of_after_last 8 t0_0 (by decide +kernel) _ fun j => ?_
  blk_simp
  rfl

end Windows

end Cert.RingProof

end
-- ==== Proof.Ring.Meets.lean ====
/-
  What a device writes is its part of the reference's result.
-/
module

public import proofs.«01_k».proof.Proof.Ring.Windows

@[expose] public section

set_option maxRecDepth 16384

noncomputable section

namespace Cert.RingProof

open Cert.KernelIdeal Cert.KernelIdeal.Gen
open Idealize.ShloMosaic
open Idealize.ShloMosaic.TcCoe
open Idealize.ShloMosaic.Pointwise

/-! ## The accumulator as a sum over the ring -/

section Sums

variable (X : (l : Bool) → Dev nD → (sh l).Idx → Elt Ideal .bf16)

theorem accAt_at (c : Dev nD) (xf : FVec Ideal S512x768 .bf16) (pm : FVec Ideal S256x256 .bf16) (co si : FVec Ideal S512x256 .f32) (r : Fin 512) (k : Fin 768) (n : ℕ) :
    accAt X c xf pm co si k0_pay53 n (ix2 r k)
      = ∑ t ∈ Finset.range (n + 1), ∑ y, ctxOf xf pm co si (X false (prv^[t] c)) (ix2 r y) * (X true (prv^[t] c) : FVec Ideal S256x768 .bf16) (ix2 y k) := by
  induction n with
  | zero =>
    rw [Finset.sum_range_one]
    refine (addTo_at _ _ _ r k).trans ?_
    rw [zero_at, zero_add]
    rfl
  | succ n ih =>
    rw [Finset.sum_range_succ, ← ih]
    exact addTo_at _ _ _ r k

theorem prv_iterate (c : Dev nD) (t : ℕ) : ((prv^[t] c).val + t) % 32 = c.val := by
  induction t with
  | zero => exact Nat.mod_eq_of_lt c.isLt
  | succ t ih =>
    rw [Function.iterate_succ_apply']
    have h : (prv (prv^[t] c)).val = ((prv^[t] c).val + 31) % 32 := rfl
    rw [h]
    omega

/-- Thirty-two steps back along the ring pass every device once. -/
theorem sum_ring {M : Type} [AddCommMonoid M] (c : Dev nD) (f : Dev nD → M) : ∑ t ∈ Finset.range 32, f (prv^[t] c) = ∑ g : Dev nD, f g := by
  refine Finset.sum_bij (fun t _ => prv^[t] c) (fun _ _ => Finset.mem_univ _) ?_ ?_ (fun _ _ => rfl)
  · intro t ht t' ht' h
    have h1 := prv_iterate c t
    have h2 := prv_iterate c t'
    have e : (prv^[t] c).val = (prv^[t'] c).val := congrArg Fin.val h
    have l1 := Finset.mem_range.mp ht
    have l2 := Finset.mem_range.mp ht'
    rw [e] at h1
    omega
  · intro g _
    refine ⟨(c.val + 32 - g.val) % 32, Finset.mem_range.mpr (Nat.mod_lt _ (by decide)), Fin.ext ?_⟩
    have h1 := prv_iterate c ((c.val + 32 - g.val) % 32)
    have l1 : (prv^[(c.val + 32 - g.val) % 32] c).val < 32 := (prv^[(c.val + 32 - g.val) % 32] c).isLt
    have l2 : c.val < 32 := c.isLt
    have l3 : g.val < 32 := g.isLt
    omega

end Sums

/-! ## What a device writes is its part of the reference's result -/

section Meets

variable (m : (ℓ : Loc nD τ sig) → Buf (Elt Ideal) ℓ)
  (x : FVec Ideal Cert.ReferenceIdeal.S64x256x768 .bf16) (wq wk wv : FVec Ideal Cert.ReferenceIdeal.S768x8192 .bf16) (wo : FVec Ideal Cert.ReferenceIdeal.S8192x768 .bf16)

/-- The context of the reference. -/
def refCtx : FVec Ideal Cert.ReferenceIdeal.S64x256x8192 .f32 :=
  Ref.ctxd (Ref.prj x wv) (Ref.wts (Ref.expd (Ref.scr (Ref.rotd (Ref.prj x wq) (Ref.wide (Host.cos Ref.ang)) (Ref.wide (Host.sin Ref.ang)))
    (Ref.rotd (Ref.prj x wk) (Ref.wide (Host.cos Ref.ang)) (Ref.wide (Host.sin Ref.ang))))))

theorem ctx_meets (c g : Dev nD)
    (hx : m ((c.tc : Thread nD τ).loc main_arg0) = Layout.block ⟨3, ![2, 256, 768]⟩ ⟨3, ![64, 256, 768]⟩ 0 32 c x)
    (hq : m ((g.tc : Thread nD τ).loc main_arg1) = Layout.block ⟨2, ![768, 256]⟩ ⟨2, ![768, 8192]⟩ 1 32 g wq)
    (hk : m ((g.tc : Thread nD τ).loc main_arg2) = Layout.block ⟨2, ![768, 256]⟩ ⟨2, ![768, 8192]⟩ 1 32 g wk)
    (hv : m ((g.tc : Thread nD τ).loc main_arg3) = Layout.block ⟨2, ![768, 256]⟩ ⟨2, ![768, 8192]⟩ 1 32 g wv)
    (b : Fin 2) (i : Fin 256) (h : Fin 4) (e : Fin 64) (B : Fin 64) (hB : B.val = c.val * 2 + b.val) (Y : Fin 8192) (hY : Y.val = g.val * 256 + (64 * h.val + e.val)) :
    ctxOf (rowsOf (xIn m c)) (pmIn m c) (coIn m c) (siIn m c) (Xs m false g) (ix2 ⟨256 * b.val + i.val, by omega⟩ ⟨64 * h.val + e.val, by omega⟩)
      = refCtx x wq wk wv (ix3 B i Y) := by
  have hg : g.val < 32 := g.isLt
  have hh : 4 * g.val + h.val < 128 := by have := h.isLt; omega
  have hl : 64 * (⟨4 * g.val + h.val, hh⟩ : Fin 128).val + e.val < 8192 := by have := e.isLt; dsimp only; omega
  obtain rfl : Y = ⟨64 * (⟨4 * g.val + h.val, hh⟩ : Fin 128).val + e.val, hl⟩ := Fin.ext (by dsimp only at hY ⊢; omega)
  have e0 : ∀ (b' : Fin 2) (i : Fin 256) (h : Fin 4) (e : Fin 64), coIn m c (ix2 ⟨256 * b'.val + i.val, by omega⟩ ⟨64 * h.val + e.val, by omega⟩) = Ref.cosAt i e := fun b' i h e => by
    rw [coIn_at, Ref.cosAt_eq]
    have a0 : (256 * b'.val + i.val) % 256 = i.val := by omega
    have a1 : (64 * h.val + e.val) % 64 / 2 = e.val / 2 := by omega
    dsimp only
    rw [a0, a1]
  have e1 : ∀ (b' : Fin 2) (i : Fin 256) (h : Fin 4) (e : Fin 64), siIn m c (ix2 ⟨256 * b'.val + i.val, by omega⟩ ⟨64 * h.val + e.val, by omega⟩) = Ref.sinAt i e := fun b' i h e => by
    rw [siIn_at, Ref.sinAt_eq]
    have a0 : (256 * b'.val + i.val) % 256 = i.val := by omega
    have a1 : (64 * h.val + e.val) % 64 / 2 = e.val / 2 := by omega
    dsimp only
    rw [a0, a1]
  have e2 : (fun (i : Fin 256) (k : Fin 768) => xIn m c (ix3 b i k)) = fun i k => x (ix3 B i k) := funext fun i => funext fun k => by
    rw [xIn_eq, hx, Layout.block_apply]
    refine congrArg x (funext fun a => Fin.ext ?_)
    match a with
    | 0 => exact hB.symm
    | 1 => rfl
    | 2 => rfl
  have e3 : ∀ (u : FVec Ideal S768x256 .bf16) (w : FVec Ideal Cert.ReferenceIdeal.S768x8192 .bf16), u = Layout.block ⟨2, ![768, 256]⟩ ⟨2, ![768, 8192]⟩ 1 32 g w →
      (fun (k : Fin 768) (e : Fin 64) => u (ix2 k ⟨64 * h.val + e.val, by omega⟩))
        = fun k e => w (ix2 k ⟨(⟨4 * g.val + h.val, by omega⟩ : Fin 128).val * 64 + e.val, by dsimp only; omega⟩) := fun u w hu => funext fun k => funext fun e => by
    rw [hu, Layout.block_apply]
    refine congrArg w (funext fun a => Fin.ext ?_)
    match a with
    | 0 => rfl
    | 1 => show g.val * 256 + (64 * h.val + e.val) = (4 * g.val + h.val) * 64 + e.val; omega
  refine (ctxOf_at (xIn m c) (pmIn m c) (pmIn_at m c) (coIn m c) (siIn m c) Ref.cosAt Ref.sinAt e0 e1 (wqIn m g) (wkIn m g) (wvIn m g) b i h e).trans ?_
  refine Eq.trans ?_ (Ref.context_at x wq wk wv B i ⟨4 * g.val + h.val, by omega⟩ e).symm
  rw [e2, e3 _ wq ((wqIn_eq m g).trans hq), e3 _ wk ((wkIn_eq m g).trans hk), e3 _ wv ((wvIn_eq m g).trans hv)]

/-- A device's result at an index is the reference's at the batch it stands for. -/
theorem res_at
    (hx : ∀ c : Dev nD, m ((c.tc : Thread nD τ).loc main_arg0) = Layout.block ⟨3, ![2, 256, 768]⟩ ⟨3, ![64, 256, 768]⟩ 0 32 c x)
    (hq : ∀ c : Dev nD, m ((c.tc : Thread nD τ).loc main_arg1) = Layout.block ⟨2, ![768, 256]⟩ ⟨2, ![768, 8192]⟩ 1 32 c wq)
    (hk : ∀ c : Dev nD, m ((c.tc : Thread nD τ).loc main_arg2) = Layout.block ⟨2, ![768, 256]⟩ ⟨2, ![768, 8192]⟩ 1 32 c wk)
    (hv : ∀ c : Dev nD, m ((c.tc : Thread nD τ).loc main_arg3) = Layout.block ⟨2, ![768, 256]⟩ ⟨2, ![768, 8192]⟩ 1 32 c wv)
    (ho : ∀ c : Dev nD, m ((c.tc : Thread nD τ).loc main_arg4) = Layout.block ⟨2, ![256, 768]⟩ ⟨2, ![8192, 768]⟩ 0 32 c wo) (c : Dev nD)
    (b : Fin 2) (i : Fin 256) (n : Fin 768) (B : Fin 64) (hB : B.val = c.val * 2 + b.val) :
    res m c (ix3 b i n) = Ref.whole x wq wk wv wo (ix3 B i n) := by
  show accAt (Xs m) c (rowsOf (xIn m c)) (pmIn m c) (coIn m c) (siIn m c) k0_pay53 31 (ix2 ⟨256 * b.val + i.val, by omega⟩ n) = _
  rw [accAt_at]
  refine (sum_ring c (fun g => ∑ y, ctxOf (rowsOf (xIn m c)) (pmIn m c) (coIn m c) (siIn m c) (Xs m false g) (ix2 ⟨256 * b.val + i.val, by omega⟩ y)
    * (Xs m true g : FVec Ideal S256x768 .bf16) (ix2 y n))).trans ?_
  refine Eq.trans ?_ (Ref.outd_at (refCtx x wq wk wv) wo B i n).symm
  refine Eq.trans ?_ (Fin.sum_univ_tiles (N := 8192) 32 256 (by rfl) _).symm
  refine Finset.sum_congr rfl fun g _ => Finset.sum_congr rfl fun y _ => ?_
  have hg : g.val < 32 := g.isLt
  refine congr (congrArg HMul.hMul ?_) ?_
  · have hy : y = ⟨64 * (⟨y.val / 64, by omega⟩ : Fin 4).val + (⟨y.val % 64, by omega⟩ : Fin 64).val, by dsimp only; omega⟩ := Fin.ext (by dsimp only; omega)
    refine (congrArg (fun y => ctxOf (rowsOf (xIn m c)) (pmIn m c) (coIn m c) (siIn m c) (Xs m false g) (ix2 ⟨256 * b.val + i.val, by omega⟩ y)) hy).trans ?_
    exact ctx_meets m x wq wk wv c g (hx c) (hq g) (hk g) (hv g) b i ⟨y.val / 64, by omega⟩ ⟨y.val % 64, by omega⟩ B hB _ (by dsimp only; omega)
  · show woIn m g (ix2 y n) = _
    rw [woIn_eq, ho, Layout.block_apply]
    refine congrArg wo (funext fun a => Fin.ext ?_)
    match a with
    | 0 => rfl
    | 1 => rfl

/-- A device's result is its block of batches of the reference's. -/
theorem res_meets
    (hx : ∀ c : Dev nD, m ((c.tc : Thread nD τ).loc main_arg0) = Layout.block ⟨3, ![2, 256, 768]⟩ ⟨3, ![64, 256, 768]⟩ 0 32 c x)
    (hq : ∀ c : Dev nD, m ((c.tc : Thread nD τ).loc main_arg1) = Layout.block ⟨2, ![768, 256]⟩ ⟨2, ![768, 8192]⟩ 1 32 c wq)
    (hk : ∀ c : Dev nD, m ((c.tc : Thread nD τ).loc main_arg2) = Layout.block ⟨2, ![768, 256]⟩ ⟨2, ![768, 8192]⟩ 1 32 c wk)
    (hv : ∀ c : Dev nD, m ((c.tc : Thread nD τ).loc main_arg3) = Layout.block ⟨2, ![768, 256]⟩ ⟨2, ![768, 8192]⟩ 1 32 c wv)
    (ho : ∀ c : Dev nD, m ((c.tc : Thread nD τ).loc main_arg4) = Layout.block ⟨2, ![256, 768]⟩ ⟨2, ![8192, 768]⟩ 0 32 c wo) (c : Dev nD) :
    res m c = Layout.block ⟨3, ![2, 256, 768]⟩ ⟨3, ![64, 256, 768]⟩ 0 32 c (Ref.whole x wq wk wv wo) := by
  have hc : c.val < 32 := c.isLt
  funext j
  have h0 : (j 0).val < 2 := (j 0).isLt
  rw [Layout.block_apply]
  refine (congrArg (res m c) (eq_ix3 j)).trans ((res_at m x wq wk wv wo hx hq hk hv ho c (j 0) (j 1) (j 2) ⟨c.val * 2 + (j 0).val, by omega⟩ rfl).trans ?_)
  refine congrArg (Ref.whole x wq wk wv wo) (funext fun a => Fin.ext ?_)
  match a with
  | 0 => rfl
  | 1 => rfl
  | 2 => rfl

end Meets

end Cert.RingProof

end
-- ==== Proof.lean ====
/- The proof of the claims: the frames of the kernel, of its idealization and of the reference; and the values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Run
public import proofs.«01_k».proof.Proof.Ring.Same
public import proofs.«01_k».proof.Proof.Ring.Meets
public import Idealize.ShloMosaic.Adequacy
public import Idealize.ShloMosaic.Init

@[expose] public section

noncomputable section

namespace Cert.Proof

open Idealize.ShloMosaic Idealize.SL.Sem

/-- The kernel at the reals: it ends, its arguments are what they were, its semaphores are at zero. -/
theorem frame_ideal : Cert.quiescent_KernelIdeal := fun m ρ _ =>
  Cert.RingProof.frame_main (F := Ideal) m ρ

/-- The kernel at the machine's floats, whose text is the same. -/
theorem frame_kernel : Cert.quiescent_Kernel := fun m ρ _ => by
  rw [Cert.RingProof.defs_same, Cert.RingProof.main_same]
  exact Cert.RingProof.frame_main (F := Bits) m ρ

/-- The reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result at the reals is the reference's, each device holding its batches. -/
theorem values : Cert.algebraic_KernelIdeal_ReferenceIdeal := fun m ρ m' ρ' _ hargs => by
  refine ⟨Cert.RingProof.Ref.whole (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ?_) (Cert.RingProof.run_main (F := Ideal) m ρ)
    obtain ⟨h0, h1, h2, h3, h4, h5⟩ := h.1 c
    refine ⟨?_, h0, h1, h2, h3, h4⟩
    exact h5.trans ((Cert.RingProof.out_eq m c).trans (Cert.RingProof.res_meets m _ _ _ _ _ (fun c => (hargs c).1) (fun c => (hargs c).2.1)
      (fun c => (hargs c).2.2.1) (fun c => (hargs c).2.2.2.1) (fun c => (hargs c).2.2.2.2) c))
  · refine (θ_run Cert.ReferenceIdeal.defs _ _).mono (fun r h => ?_) (Cert.ReferenceIdeal.Value.run (F := Ideal) m' ρ')
    obtain ⟨h0, h1⟩ := h 0
    exact ⟨h0.trans (Cert.RingProof.Ref.res_eq (F := Ideal) m' 0), h1⟩

theorem claim : Cert.Claim := ⟨Cert.Kernel.Gen.facts, Cert.KernelIdeal.Gen.facts, Cert.ReferenceIdeal.Gen.facts,
  ⟨frame_kernel, frame_ideal, frame_reference, trivial, values⟩⟩

end Cert.Proof

end
